-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128x3000 : Shape := ⟨3, ![128, 128, 3000]⟩
abbrev S16384x1 : Shape := ⟨2, ![16384, 1]⟩
abbrev S16384x3000 : Shape := ⟨2, ![16384, 3000]⟩
abbrev S512x3000 : Shape := ⟨2, ![512, 3000]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S128x128x3000, .f32⟩
  | .hbm, ⟨1, _⟩ => ⟨S16384x1, .f32⟩
  | .hbm, ⟨2, _⟩ => ⟨S16384x3000, .f32⟩
  | .hbm, ⟨3, _⟩ => ⟨S16384x3000, .f32⟩
  | .hbm, ⟨4, _⟩ => ⟨S128x128x3000, .f32⟩
  | .local _ .vmem, ⟨0, _⟩ => ⟨S512x3000, .f32⟩
  | .local _ .vmem, ⟨1, _⟩ => ⟨S512x3000, .f32⟩
  | .local _ .vmem, ⟨2, _⟩ => ⟨S512x1, .f32⟩
  | .local _ .vmem, ⟨3, _⟩ => ⟨S512x1, .f32⟩
  | .local _ .vmem, ⟨4, _⟩ => ⟨S512x3000, .f32⟩
  | .local _ .vmem, ⟨5, _⟩ => ⟨S512x3000, .f32⟩
  | _, _ => ⟨S128x128x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x128x3000 : Shape := ⟨3, ![128, 128, 3000]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S128x128x1 : Shape := ⟨3, ![128, 128, 1]⟩

abbrev nBuf : Space → Nat
  | .hbm => 1800
  | .vmem => 0
  | .smem => 0
  | _ => 0

abbrev hbmTy0_0 (i : Nat) : BufTy := match i % 128 with
  | 0 => ⟨S128x128x3000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S128x128x3000, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .i32⟩
  | 126 => ⟨S_, .i32⟩
  | 127 => ⟨S_, .i32⟩
  | _ => ⟨S128x128x3000, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S1, .i32⟩
  | 16 => ⟨S1, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S128x128x3000, .f32⟩

abbrev hbmTy0_3 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S128x128x3000, .f32⟩

abbrev hbmTy0_4 (i : Nat) : BufTy := match i % 128 with
  | 0 => ⟨S2, .i32⟩
  | 1 => ⟨S1x2, .i32⟩
  | 2 => ⟨S2, .i32⟩
  | 3 => ⟨S1, .i32⟩
  | 4 => ⟨S_, .i32⟩
  | 5 => ⟨S1, .i32⟩
  | 6 => ⟨S_, .i32⟩
  | 7 => ⟨S128, .i64⟩
  | 8 => ⟨S_, .i64⟩
  | 9 => ⟨S128, .i64⟩
  | 10 => ⟨S128, .i64⟩
  | 11 => ⟨S_, .i64⟩
  | 12 => ⟨S128, .i64⟩
  | 13 => ⟨S128, .i64⟩
  | 14 => ⟨S128, .i32⟩
  | 15 => ⟨S128, .i32⟩
  | 16 => ⟨S_, .i32⟩
  | 17 => ⟨S_, .i32⟩
  | 18 => ⟨S_, .i32⟩
  | 19 => ⟨S128, .i32⟩
  | 20 => ⟨S128, .i32⟩
  | 21 => ⟨S128, .i32⟩
  | 22 => ⟨S128, .i32⟩
  | 23 => ⟨S128, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S128, .i32⟩
  | 32 => ⟨S128, .i32⟩
  | 33 => ⟨S_, .i32⟩
  | 34 => ⟨S128, .i32⟩
  | 35 => ⟨S128, .i32⟩
  | 36 => ⟨S_, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128, .i32⟩
  | 49 => ⟨S128, .i32⟩
  | 50 => ⟨S128, .i32⟩
  | 51 => ⟨S_, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S128, .i32⟩
  | 59 => ⟨S128, .i32⟩
  | 60 => ⟨S128, .i32⟩
  | 61 => ⟨S128, .i32⟩
  | 62 => ⟨S128, .i32⟩
  | 63 => ⟨S_, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S_, .i32⟩
  | 71 => ⟨S128, .i32⟩
  | 72 => ⟨S128, .i32⟩
  | 73 => ⟨S128, .i32⟩
  | 74 => ⟨S128, .i32⟩
  | 75 => ⟨S128, .i32⟩
  | 76 => ⟨S_, .i32⟩
  | 77 => ⟨S128, .i32⟩
  | 78 => ⟨S128, .i32⟩
  | 79 => ⟨S_, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S128, .i32⟩
  | 93 => ⟨S128, .i32⟩
  | 94 => ⟨S_, .i32⟩
  | 95 => ⟨S128, .i32⟩
  | 96 => ⟨S128, .i32⟩
  | 97 => ⟨S_, .i32⟩
  | 98 => ⟨S128, .i32⟩
  | 99 => ⟨S128, .i32⟩
  | 100 => ⟨S128, .i32⟩
  | 101 => ⟨S128, .i32⟩
  | 102 => ⟨S128, .i32⟩
  | 103 => ⟨S128, .i32⟩
  | 104 => ⟨S128, .i32⟩
  | 105 => ⟨S128, .i32⟩
  | 106 => ⟨S_, .i32⟩
  | 107 => ⟨S128, .i32⟩
  | 108 => ⟨S128, .i32⟩
  | 109 => ⟨S128, .i32⟩
  | 110 => ⟨S_, .i32⟩
  | 111 => ⟨S128, .i32⟩
  | 112 => ⟨S128, .i32⟩
  | 113 => ⟨S_, .i32⟩
  | 114 => ⟨S128, .i32⟩
  | 115 => ⟨S128, .i32⟩
  | 116 => ⟨S128, .i32⟩
  | 117 => ⟨S128, .i32⟩
  | 118 => ⟨S128, .i32⟩
  | 119 => ⟨S_, .i32⟩
  | 120 => ⟨S128, .i32⟩
  | 121 => ⟨S128, .i32⟩
  | 122 => ⟨S_, .i32⟩
  | 123 => ⟨S128, .i32⟩
  | 124 => ⟨S128, .i32⟩
  | 125 => ⟨S128, .i32⟩
  | 126 => ⟨S128, .i32⟩
  | 127 => ⟨S128, .i32⟩
  | _ => ⟨S128x128x3000, .f32⟩

abbrev hbmTy0_5 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i32⟩
  | 6 => ⟨S128, .i32⟩
  | 7 => ⟨S128, .i32⟩
  | 8 => ⟨S128, .i32⟩
  | 9 => ⟨S_, .i32⟩
  | 10 => ⟨S128, .i32⟩
  | 11 => ⟨S128, .i32⟩
  | 12 => ⟨S_, .i32⟩
  | 13 => ⟨S128, .i32⟩
  | 14 => ⟨S128, .i32⟩
  | 15 => ⟨S128, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S128, .i32⟩
  | 25 => ⟨S_, .i32⟩
  | 26 => ⟨S128, .i32⟩
  | 27 => ⟨S128, .i32⟩
  | 28 => ⟨S_, .i32⟩
  | 29 => ⟨S128, .i32⟩
  | 30 => ⟨S128, .i32⟩
  | 31 => ⟨S128, .i32⟩
  | 32 => ⟨S128, .i32⟩
  | 33 => ⟨S128, .i32⟩
  | 34 => ⟨S_, .i32⟩
  | 35 => ⟨S128, .i32⟩
  | 36 => ⟨S128, .i32⟩
  | 37 => ⟨S_, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S_, .i32⟩
  | 47 => ⟨S128, .i32⟩
  | 48 => ⟨S128, .i32⟩
  | 49 => ⟨S128, .i32⟩
  | 50 => ⟨S128, .i32⟩
  | 51 => ⟨S128, .i32⟩
  | 52 => ⟨S_, .i32⟩
  | 53 => ⟨S128, .i32⟩
  | 54 => ⟨S128, .i32⟩
  | 55 => ⟨S_, .i32⟩
  | 56 => ⟨S128, .i32⟩
  | 57 => ⟨S128, .i32⟩
  | 58 => ⟨S128, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S128, .i32⟩
  | 68 => ⟨S_, .i32⟩
  | 69 => ⟨S128, .i32⟩
  | 70 => ⟨S128, .i32⟩
  | 71 => ⟨S_, .i32⟩
  | 72 => ⟨S128, .i32⟩
  | 73 => ⟨S128, .i32⟩
  | 74 => ⟨S128, .i32⟩
  | 75 => ⟨S128, .i32⟩
  | 76 => ⟨S128, .i32⟩
  | 77 => ⟨S_, .i32⟩
  | 78 => ⟨S128, .i32⟩
  | 79 => ⟨S128, .i32⟩
  | 80 => ⟨S_, .i32⟩
  | 81 => ⟨S128, .i32⟩
  | 82 => ⟨S128, .i32⟩
  | 83 => ⟨S128, .i32⟩
  | 84 => ⟨S128, .i32⟩
  | 85 => ⟨S128, .i32⟩
  | 86 => ⟨S_, .i32⟩
  | 87 => ⟨S128, .i32⟩
  | 88 => ⟨S128, .i32⟩
  | 89 => ⟨S_, .i32⟩
  | 90 => ⟨S128, .i32⟩
  | 91 => ⟨S128, .i32⟩
  | 92 => ⟨S128, .i32⟩
  | 93 => ⟨S128, .i32⟩
  | 94 => ⟨S128, .i32⟩
  | 95 => ⟨S_, .i32⟩
  | 96 => ⟨S128, .i32⟩
  | 97 => ⟨S128, .i32⟩
  | 98 => ⟨S_, .i32⟩
  | 99 => ⟨S128, .i32⟩
  | 100 => ⟨S128, .i32⟩
  | 101 => ⟨S128, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S128, .i32⟩
  | 111 => ⟨S1, .i32⟩
  | 112 => ⟨S_, .i32⟩
  | 113 => ⟨S1, .i32⟩
  | 114 => ⟨S_, .i32⟩
  | 115 => ⟨S128, .i64⟩
  | 116 => ⟨S_, .i64⟩
  | 117 => ⟨S128, .i64⟩
  | 118 => ⟨S128, .i64⟩
  | 119 => ⟨S_, .i64⟩
  | 120 => ⟨S128, .i64⟩
  | 121 => ⟨S128, .i64⟩
  | 122 => ⟨S128, .i32⟩
  | 123 => ⟨S128, .i32⟩
  | 124 => ⟨S_, .i32⟩
  | 125 => ⟨S_, .i32⟩
  | 126 => ⟨S_, .i32⟩
  | 127 => ⟨S128, .i32⟩
  | _ => ⟨S128x128x3000, .f32⟩

abbrev hbmTy0_6 (i : Nat) : BufTy := match i % 128 with
  | 0 => ⟨S128, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S_, .i32⟩
  | 8 => ⟨S128, .i32⟩
  | 9 => ⟨S128, .i32⟩
  | 10 => ⟨S128, .i32⟩
  | 11 => ⟨S128, .i32⟩
  | 12 => ⟨S128, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S128, .i32⟩
  | 21 => ⟨S128, .i32⟩
  | 22 => ⟨S_, .i32⟩
  | 23 => ⟨S128, .i32⟩
  | 24 => ⟨S128, .i32⟩
  | 25 => ⟨S_, .i32⟩
  | 26 => ⟨S128, .i32⟩
  | 27 => ⟨S128, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S128, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S128, .i32⟩
  | 63 => ⟨S128, .i32⟩
  | 64 => ⟨S128, .i32⟩
  | 65 => ⟨S_, .i32⟩
  | 66 => ⟨S128, .i32⟩
  | 67 => ⟨S128, .i32⟩
  | 68 => ⟨S_, .i32⟩
  | 69 => ⟨S128, .i32⟩
  | 70 => ⟨S128, .i32⟩
  | 71 => ⟨S128, .i32⟩
  | 72 => ⟨S128, .i32⟩
  | 73 => ⟨S128, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S128, .i32⟩
  | 86 => ⟨S_, .i32⟩
  | 87 => ⟨S128, .i32⟩
  | 88 => ⟨S128, .i32⟩
  | 89 => ⟨S128, .i32⟩
  | 90 => ⟨S_, .i32⟩
  | 91 => ⟨S128, .i32⟩
  | 92 => ⟨S128, .i32⟩
  | 93 => ⟨S_, .i32⟩
  | 94 => ⟨S128, .i32⟩
  | 95 => ⟨S128, .i32⟩
  | 96 => ⟨S128, .i32⟩
  | 97 => ⟨S128, .i32⟩
  | 98 => ⟨S128, .i32⟩
  | 99 => ⟨S_, .i32⟩
  | 100 => ⟨S128, .i32⟩
  | 101 => ⟨S128, .i32⟩
  | 102 => ⟨S_, .i32⟩
  | 103 => ⟨S128, .i32⟩
  | 104 => ⟨S128, .i32⟩
  | 105 => ⟨S128, .i32⟩
  | 106 => ⟨S128, .i32⟩
  | 107 => ⟨S128, .i32⟩
  | 108 => ⟨S_, .i32⟩
  | 109 => ⟨S128, .i32⟩
  | 110 => ⟨S128, .i32⟩
  | 111 => ⟨S_, .i32⟩
  | 112 => ⟨S128, .i32⟩
  | 113 => ⟨S128, .i32⟩
  | 114 => ⟨S128, .i32⟩
  | 115 => ⟨S128, .i32⟩
  | 116 => ⟨S128, .i32⟩
  | 117 => ⟨S_, .i32⟩
  | 118 => ⟨S128, .i32⟩
  | 119 => ⟨S128, .i32⟩
  | 120 => ⟨S_, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S128, .i32⟩
  | _ => ⟨S128x128x3000, .f32⟩

abbrev hbmTy0_7 (i : Nat) : BufTy := match i % 128 with
  | 0 => ⟨S128, .i32⟩
  | 1 => ⟨S_, .i32⟩
  | 2 => ⟨S128, .i32⟩
  | 3 => ⟨S128, .i32⟩
  | 4 => ⟨S128, .i32⟩
  | 5 => ⟨S_, .i32⟩
  | 6 => ⟨S128, .i32⟩
  | 7 => ⟨S128, .i32⟩
  | 8 => ⟨S_, .i32⟩
  | 9 => ⟨S128, .i32⟩
  | 10 => ⟨S128, .i32⟩
  | 11 => ⟨S128, .i32⟩
  | 12 => ⟨S128, .i32⟩
  | 13 => ⟨S128, .i32⟩
  | 14 => ⟨S_, .i32⟩
  | 15 => ⟨S128, .i32⟩
  | 16 => ⟨S128, .i32⟩
  | 17 => ⟨S_, .i32⟩
  | 18 => ⟨S128, .i32⟩
  | 19 => ⟨S128, .i32⟩
  | 20 => ⟨S128, .i32⟩
  | 21 => ⟨S128, .i32⟩
  | 22 => ⟨S128, .i32⟩
  | 23 => ⟨S_, .i32⟩
  | 24 => ⟨S128, .i32⟩
  | 25 => ⟨S128, .i32⟩
  | 26 => ⟨S_, .i32⟩
  | 27 => ⟨S128, .i32⟩
  | 28 => ⟨S128, .i32⟩
  | 29 => ⟨S128, .i32⟩
  | 30 => ⟨S128, .i32⟩
  | 31 => ⟨S128, .i32⟩
  | 32 => ⟨S_, .i32⟩
  | 33 => ⟨S128, .i32⟩
  | 34 => ⟨S128, .i32⟩
  | 35 => ⟨S_, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S128, .i32⟩
  | 43 => ⟨S128, .i32⟩
  | 44 => ⟨S_, .i32⟩
  | 45 => ⟨S128, .i32⟩
  | 46 => ⟨S128, .i32⟩
  | 47 => ⟨S128, .i32⟩
  | 48 => ⟨S_, .i32⟩
  | 49 => ⟨S128, .i32⟩
  | 50 => ⟨S128, .i32⟩
  | 51 => ⟨S_, .i32⟩
  | 52 => ⟨S128, .i32⟩
  | 53 => ⟨S128, .i32⟩
  | 54 => ⟨S128, .i32⟩
  | 55 => ⟨S128, .i32⟩
  | 56 => ⟨S128, .i32⟩
  | 57 => ⟨S_, .i32⟩
  | 58 => ⟨S128, .i32⟩
  | 59 => ⟨S128, .i32⟩
  | 60 => ⟨S_, .i32⟩
  | 61 => ⟨S128, .i32⟩
  | 62 => ⟨S128, .i32⟩
  | 63 => ⟨S128, .i32⟩
  | 64 => ⟨S128, .i32⟩
  | 65 => ⟨S128, .i32⟩
  | 66 => ⟨S_, .i32⟩
  | 67 => ⟨S128, .i32⟩
  | 68 => ⟨S128, .i32⟩
  | 69 => ⟨S_, .i32⟩
  | 70 => ⟨S128, .i32⟩
  | 71 => ⟨S128, .i32⟩
  | 72 => ⟨S128, .i32⟩
  | 73 => ⟨S128, .i32⟩
  | 74 => ⟨S128, .i32⟩
  | 75 => ⟨S_, .i32⟩
  | 76 => ⟨S128, .i32⟩
  | 77 => ⟨S128, .i32⟩
  | 78 => ⟨S_, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S128, .i32⟩
  | 86 => ⟨S128, .i32⟩
  | 87 => ⟨S_, .i32⟩
  | 88 => ⟨S128, .i32⟩
  | 89 => ⟨S128, .i32⟩
  | 90 => ⟨S128, .i32⟩
  | 91 => ⟨S1, .i32⟩
  | 92 => ⟨S1, .i32⟩
  | 93 => ⟨S1, .i1⟩
  | 94 => ⟨S_, .i32⟩
  | 95 => ⟨S1, .i32⟩
  | 96 => ⟨S1, .i32⟩
  | 97 => ⟨S1, .i1⟩
  | 98 => ⟨S1, .i1⟩
  | 99 => ⟨S1, .i1⟩
  | 100 => ⟨S_, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S128, .i32⟩
  | 110 => ⟨S128, .i32⟩
  | 111 => ⟨S128, .i32⟩
  | 112 => ⟨S128, .i32⟩
  | 113 => ⟨S128, .i32⟩
  | 114 => ⟨S128, .i32⟩
  | 115 => ⟨S128, .i32⟩
  | 116 => ⟨S128, .i32⟩
  | 117 => ⟨S128, .i32⟩
  | 118 => ⟨S128, .i32⟩
  | 119 => ⟨S128, .i32⟩
  | 120 => ⟨S128, .i32⟩
  | 121 => ⟨S_, .i32⟩
  | 122 => ⟨S128, .i32⟩
  | 123 => ⟨S128, .i32⟩
  | 124 => ⟨S_, .i32⟩
  | 125 => ⟨S_, .i32⟩
  | 126 => ⟨S_, .i32⟩
  | 127 => ⟨S_, .i32⟩
  | _ => ⟨S128x128x3000, .f32⟩

abbrev hbmTy0_8 (i : Nat) : BufTy := match i % 128 with
  | 0 => ⟨S_, .i32⟩
  | 1 => ⟨S_, .i32⟩
  | 2 => ⟨S128, .i32⟩
  | 3 => ⟨S128, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S128, .i32⟩
  | 12 => ⟨S128, .i32⟩
  | 13 => ⟨S128, .i32⟩
  | 14 => ⟨S128, .i32⟩
  | 15 => ⟨S1, .i32⟩
  | 16 => ⟨S1, .i32⟩
  | 17 => ⟨S_, .i32⟩
  | 18 => ⟨S1, .i32⟩
  | 19 => ⟨S_, .i32⟩
  | 20 => ⟨S2, .i64⟩
  | 21 => ⟨S_, .i64⟩
  | 22 => ⟨S2, .i64⟩
  | 23 => ⟨S2, .i64⟩
  | 24 => ⟨S_, .i64⟩
  | 25 => ⟨S2, .i64⟩
  | 26 => ⟨S2, .i64⟩
  | 27 => ⟨S2, .i32⟩
  | 28 => ⟨S2, .i32⟩
  | 29 => ⟨S_, .i32⟩
  | 30 => ⟨S_, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S128x128x3000, .f32⟩

abbrev hbmTy0_9 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2x1, .i32⟩
  | 124 => ⟨S2x1, .i32⟩
  | 125 => ⟨S2x2, .i32⟩
  | 126 => ⟨S1x2, .i32⟩
  | 127 => ⟨S2, .i32⟩
  | _ => ⟨S128x128x3000, .f32⟩

abbrev hbmTy0_10 (i : Nat) : BufTy := match i % 128 with
  | 0 => ⟨S1x2, .i32⟩
  | 1 => ⟨S2, .i32⟩
  | 2 => ⟨S1, .i32⟩
  | 3 => ⟨S_, .i32⟩
  | 4 => ⟨S1, .i32⟩
  | 5 => ⟨S_, .i32⟩
  | 6 => ⟨S128, .i64⟩
  | 7 => ⟨S_, .i64⟩
  | 8 => ⟨S128, .i64⟩
  | 9 => ⟨S128, .i64⟩
  | 10 => ⟨S_, .i64⟩
  | 11 => ⟨S128, .i64⟩
  | 12 => ⟨S128, .i64⟩
  | 13 => ⟨S128, .i32⟩
  | 14 => ⟨S128, .i32⟩
  | 15 => ⟨S_, .i32⟩
  | 16 => ⟨S_, .i32⟩
  | 17 => ⟨S_, .i32⟩
  | 18 => ⟨S128, .i32⟩
  | 19 => ⟨S128, .i32⟩
  | 20 => ⟨S128, .i32⟩
  | 21 => ⟨S128, .i32⟩
  | 22 => ⟨S128, .i32⟩
  | 23 => ⟨S_, .i32⟩
  | 24 => ⟨S128, .i32⟩
  | 25 => ⟨S128, .i32⟩
  | 26 => ⟨S_, .i32⟩
  | 27 => ⟨S128, .i32⟩
  | 28 => ⟨S128, .i32⟩
  | 29 => ⟨S128, .i32⟩
  | 30 => ⟨S128, .i32⟩
  | 31 => ⟨S128, .i32⟩
  | 32 => ⟨S_, .i32⟩
  | 33 => ⟨S128, .i32⟩
  | 34 => ⟨S128, .i32⟩
  | 35 => ⟨S_, .i32⟩
  | 36 => ⟨S128, .i32⟩
  | 37 => ⟨S128, .i32⟩
  | 38 => ⟨S128, .i32⟩
  | 39 => ⟨S128, .i32⟩
  | 40 => ⟨S128, .i32⟩
  | 41 => ⟨S_, .i32⟩
  | 42 => ⟨S128, .i32⟩
  | 43 => ⟨S128, .i32⟩
  | 44 => ⟨S_, .i32⟩
  | 45 => ⟨S128, .i32⟩
  | 46 => ⟨S128, .i32⟩
  | 47 => ⟨S128, .i32⟩
  | 48 => ⟨S128, .i32⟩
  | 49 => ⟨S128, .i32⟩
  | 50 => ⟨S_, .i32⟩
  | 51 => ⟨S128, .i32⟩
  | 52 => ⟨S128, .i32⟩
  | 53 => ⟨S_, .i32⟩
  | 54 => ⟨S128, .i32⟩
  | 55 => ⟨S128, .i32⟩
  | 56 => ⟨S128, .i32⟩
  | 57 => ⟨S128, .i32⟩
  | 58 => ⟨S128, .i32⟩
  | 59 => ⟨S128, .i32⟩
  | 60 => ⟨S128, .i32⟩
  | 61 => ⟨S128, .i32⟩
  | 62 => ⟨S_, .i32⟩
  | 63 => ⟨S128, .i32⟩
  | 64 => ⟨S128, .i32⟩
  | 65 => ⟨S128, .i32⟩
  | 66 => ⟨S_, .i32⟩
  | 67 => ⟨S128, .i32⟩
  | 68 => ⟨S128, .i32⟩
  | 69 => ⟨S_, .i32⟩
  | 70 => ⟨S128, .i32⟩
  | 71 => ⟨S128, .i32⟩
  | 72 => ⟨S128, .i32⟩
  | 73 => ⟨S128, .i32⟩
  | 74 => ⟨S128, .i32⟩
  | 75 => ⟨S_, .i32⟩
  | 76 => ⟨S128, .i32⟩
  | 77 => ⟨S128, .i32⟩
  | 78 => ⟨S_, .i32⟩
  | 79 => ⟨S128, .i32⟩
  | 80 => ⟨S128, .i32⟩
  | 81 => ⟨S128, .i32⟩
  | 82 => ⟨S128, .i32⟩
  | 83 => ⟨S128, .i32⟩
  | 84 => ⟨S_, .i32⟩
  | 85 => ⟨S128, .i32⟩
  | 86 => ⟨S128, .i32⟩
  | 87 => ⟨S_, .i32⟩
  | 88 => ⟨S128, .i32⟩
  | 89 => ⟨S128, .i32⟩
  | 90 => ⟨S128, .i32⟩
  | 91 => ⟨S128, .i32⟩
  | 92 => ⟨S128, .i32⟩
  | 93 => ⟨S_, .i32⟩
  | 94 => ⟨S128, .i32⟩
  | 95 => ⟨S128, .i32⟩
  | 96 => ⟨S_, .i32⟩
  | 97 => ⟨S128, .i32⟩
  | 98 => ⟨S128, .i32⟩
  | 99 => ⟨S128, .i32⟩
  | 100 => ⟨S128, .i32⟩
  | 101 => ⟨S128, .i32⟩
  | 102 => ⟨S128, .i32⟩
  | 103 => ⟨S128, .i32⟩
  | 104 => ⟨S128, .i32⟩
  | 105 => ⟨S_, .i32⟩
  | 106 => ⟨S128, .i32⟩
  | 107 => ⟨S128, .i32⟩
  | 108 => ⟨S128, .i32⟩
  | 109 => ⟨S_, .i32⟩
  | 110 => ⟨S128, .i32⟩
  | 111 => ⟨S128, .i32⟩
  | 112 => ⟨S_, .i32⟩
  | 113 => ⟨S128, .i32⟩
  | 114 => ⟨S128, .i32⟩
  | 115 => ⟨S128, .i32⟩
  | 116 => ⟨S128, .i32⟩
  | 117 => ⟨S128, .i32⟩
  | 118 => ⟨S_, .i32⟩
  | 119 => ⟨S128, .i32⟩
  | 120 => ⟨S128, .i32⟩
  | 121 => ⟨S_, .i32⟩
  | 122 => ⟨S128, .i32⟩
  | 123 => ⟨S128, .i32⟩
  | 124 => ⟨S128, .i32⟩
  | 125 => ⟨S128, .i32⟩
  | 126 => ⟨S128, .i32⟩
  | 127 => ⟨S_, .i32⟩
  | _ => ⟨S128x128x3000, .f32⟩

abbrev hbmTy0_11 (i : Nat) : BufTy := match i % 128 with
  | 0 => ⟨S128, .i32⟩
  | 1 => ⟨S128, .i32⟩
  | 2 => ⟨S_, .i32⟩
  | 3 => ⟨S128, .i32⟩
  | 4 => ⟨S128, .i32⟩
  | 5 => ⟨S128, .i32⟩
  | 6 => ⟨S128, .i32⟩
  | 7 => ⟨S128, .i32⟩
  | 8 => ⟨S_, .i32⟩
  | 9 => ⟨S128, .i32⟩
  | 10 => ⟨S128, .i32⟩
  | 11 => ⟨S_, .i32⟩
  | 12 => ⟨S128, .i32⟩
  | 13 => ⟨S128, .i32⟩
  | 14 => ⟨S128, .i32⟩
  | 15 => ⟨S128, .i32⟩
  | 16 => ⟨S128, .i32⟩
  | 17 => ⟨S128, .i32⟩
  | 18 => ⟨S128, .i32⟩
  | 19 => ⟨S128, .i32⟩
  | 20 => ⟨S_, .i32⟩
  | 21 => ⟨S128, .i32⟩
  | 22 => ⟨S128, .i32⟩
  | 23 => ⟨S128, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S128, .i32⟩
  | 32 => ⟨S128, .i32⟩
  | 33 => ⟨S_, .i32⟩
  | 34 => ⟨S128, .i32⟩
  | 35 => ⟨S128, .i32⟩
  | 36 => ⟨S_, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128, .i32⟩
  | 49 => ⟨S128, .i32⟩
  | 50 => ⟨S128, .i32⟩
  | 51 => ⟨S_, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S128, .i32⟩
  | 59 => ⟨S128, .i32⟩
  | 60 => ⟨S128, .i32⟩
  | 61 => ⟨S128, .i32⟩
  | 62 => ⟨S128, .i32⟩
  | 63 => ⟨S_, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S_, .i32⟩
  | 71 => ⟨S128, .i32⟩
  | 72 => ⟨S128, .i32⟩
  | 73 => ⟨S128, .i32⟩
  | 74 => ⟨S128, .i32⟩
  | 75 => ⟨S128, .i32⟩
  | 76 => ⟨S_, .i32⟩
  | 77 => ⟨S128, .i32⟩
  | 78 => ⟨S128, .i32⟩
  | 79 => ⟨S_, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S128, .i32⟩
  | 93 => ⟨S128, .i32⟩
  | 94 => ⟨S_, .i32⟩
  | 95 => ⟨S128, .i32⟩
  | 96 => ⟨S128, .i32⟩
  | 97 => ⟨S_, .i32⟩
  | 98 => ⟨S128, .i32⟩
  | 99 => ⟨S128, .i32⟩
  | 100 => ⟨S128, .i32⟩
  | 101 => ⟨S128, .i32⟩
  | 102 => ⟨S128, .i32⟩
  | 103 => ⟨S128, .i32⟩
  | 104 => ⟨S128, .i32⟩
  | 105 => ⟨S128, .i32⟩
  | 106 => ⟨S_, .i32⟩
  | 107 => ⟨S128, .i32⟩
  | 108 => ⟨S128, .i32⟩
  | 109 => ⟨S128, .i32⟩
  | 110 => ⟨S1, .i32⟩
  | 111 => ⟨S_, .i32⟩
  | 112 => ⟨S1, .i32⟩
  | 113 => ⟨S_, .i32⟩
  | 114 => ⟨S128, .i64⟩
  | 115 => ⟨S_, .i64⟩
  | 116 => ⟨S128, .i64⟩
  | 117 => ⟨S128, .i64⟩
  | 118 => ⟨S_, .i64⟩
  | 119 => ⟨S128, .i64⟩
  | 120 => ⟨S128, .i64⟩
  | 121 => ⟨S128, .i32⟩
  | 122 => ⟨S128, .i32⟩
  | 123 => ⟨S_, .i32⟩
  | 124 => ⟨S_, .i32⟩
  | 125 => ⟨S_, .i32⟩
  | 126 => ⟨S128, .i32⟩
  | 127 => ⟨S128, .i32⟩
  | _ => ⟨S128x128x3000, .f32⟩

abbrev hbmTy0_12 (i : Nat) : BufTy := match i % 128 with
  | 0 => ⟨S128, .i32⟩
  | 1 => ⟨S128, .i32⟩
  | 2 => ⟨S128, .i32⟩
  | 3 => ⟨S_, .i32⟩
  | 4 => ⟨S128, .i32⟩
  | 5 => ⟨S128, .i32⟩
  | 6 => ⟨S_, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S_, .i32⟩
  | 16 => ⟨S128, .i32⟩
  | 17 => ⟨S128, .i32⟩
  | 18 => ⟨S128, .i32⟩
  | 19 => ⟨S128, .i32⟩
  | 20 => ⟨S128, .i32⟩
  | 21 => ⟨S_, .i32⟩
  | 22 => ⟨S128, .i32⟩
  | 23 => ⟨S128, .i32⟩
  | 24 => ⟨S_, .i32⟩
  | 25 => ⟨S128, .i32⟩
  | 26 => ⟨S128, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S_, .i32⟩
  | 50 => ⟨S128, .i32⟩
  | 51 => ⟨S128, .i32⟩
  | 52 => ⟨S128, .i32⟩
  | 53 => ⟨S128, .i32⟩
  | 54 => ⟨S128, .i32⟩
  | 55 => ⟨S_, .i32⟩
  | 56 => ⟨S128, .i32⟩
  | 57 => ⟨S128, .i32⟩
  | 58 => ⟨S_, .i32⟩
  | 59 => ⟨S128, .i32⟩
  | 60 => ⟨S128, .i32⟩
  | 61 => ⟨S128, .i32⟩
  | 62 => ⟨S128, .i32⟩
  | 63 => ⟨S128, .i32⟩
  | 64 => ⟨S_, .i32⟩
  | 65 => ⟨S128, .i32⟩
  | 66 => ⟨S128, .i32⟩
  | 67 => ⟨S_, .i32⟩
  | 68 => ⟨S128, .i32⟩
  | 69 => ⟨S128, .i32⟩
  | 70 => ⟨S128, .i32⟩
  | 71 => ⟨S128, .i32⟩
  | 72 => ⟨S128, .i32⟩
  | 73 => ⟨S_, .i32⟩
  | 74 => ⟨S128, .i32⟩
  | 75 => ⟨S128, .i32⟩
  | 76 => ⟨S_, .i32⟩
  | 77 => ⟨S128, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S128, .i32⟩
  | 89 => ⟨S_, .i32⟩
  | 90 => ⟨S128, .i32⟩
  | 91 => ⟨S128, .i32⟩
  | 92 => ⟨S_, .i32⟩
  | 93 => ⟨S128, .i32⟩
  | 94 => ⟨S128, .i32⟩
  | 95 => ⟨S128, .i32⟩
  | 96 => ⟨S128, .i32⟩
  | 97 => ⟨S128, .i32⟩
  | 98 => ⟨S_, .i32⟩
  | 99 => ⟨S128, .i32⟩
  | 100 => ⟨S128, .i32⟩
  | 101 => ⟨S_, .i32⟩
  | 102 => ⟨S128, .i32⟩
  | 103 => ⟨S128, .i32⟩
  | 104 => ⟨S128, .i32⟩
  | 105 => ⟨S128, .i32⟩
  | 106 => ⟨S128, .i32⟩
  | 107 => ⟨S_, .i32⟩
  | 108 => ⟨S128, .i32⟩
  | 109 => ⟨S128, .i32⟩
  | 110 => ⟨S_, .i32⟩
  | 111 => ⟨S128, .i32⟩
  | 112 => ⟨S128, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S_, .i32⟩
  | 120 => ⟨S128, .i32⟩
  | 121 => ⟨S128, .i32⟩
  | 122 => ⟨S128, .i32⟩
  | 123 => ⟨S128, .i32⟩
  | 124 => ⟨S128, .i32⟩
  | 125 => ⟨S128, .i32⟩
  | 126 => ⟨S128, .i32⟩
  | 127 => ⟨S128, .i32⟩
  | _ => ⟨S128x128x3000, .f32⟩

abbrev hbmTy0_13 (i : Nat) : BufTy := match i % 128 with
  | 0 => ⟨S_, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S_, .i32⟩
  | 8 => ⟨S128, .i32⟩
  | 9 => ⟨S128, .i32⟩
  | 10 => ⟨S128, .i32⟩
  | 11 => ⟨S128, .i32⟩
  | 12 => ⟨S128, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128, .i32⟩
  | 20 => ⟨S128, .i32⟩
  | 21 => ⟨S128, .i32⟩
  | 22 => ⟨S_, .i32⟩
  | 23 => ⟨S128, .i32⟩
  | 24 => ⟨S128, .i32⟩
  | 25 => ⟨S_, .i32⟩
  | 26 => ⟨S128, .i32⟩
  | 27 => ⟨S128, .i32⟩
  | 28 => ⟨S128, .i32⟩
  | 29 => ⟨S128, .i32⟩
  | 30 => ⟨S128, .i32⟩
  | 31 => ⟨S_, .i32⟩
  | 32 => ⟨S128, .i32⟩
  | 33 => ⟨S128, .i32⟩
  | 34 => ⟨S_, .i32⟩
  | 35 => ⟨S128, .i32⟩
  | 36 => ⟨S128, .i32⟩
  | 37 => ⟨S128, .i32⟩
  | 38 => ⟨S128, .i32⟩
  | 39 => ⟨S128, .i32⟩
  | 40 => ⟨S128, .i32⟩
  | 41 => ⟨S128, .i32⟩
  | 42 => ⟨S128, .i32⟩
  | 43 => ⟨S_, .i32⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S128, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S128, .i32⟩
  | 63 => ⟨S128, .i32⟩
  | 64 => ⟨S128, .i32⟩
  | 65 => ⟨S_, .i32⟩
  | 66 => ⟨S128, .i32⟩
  | 67 => ⟨S128, .i32⟩
  | 68 => ⟨S_, .i32⟩
  | 69 => ⟨S128, .i32⟩
  | 70 => ⟨S128, .i32⟩
  | 71 => ⟨S128, .i32⟩
  | 72 => ⟨S128, .i32⟩
  | 73 => ⟨S128, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S128, .i32⟩
  | 81 => ⟨S128, .i32⟩
  | 82 => ⟨S128, .i32⟩
  | 83 => ⟨S128, .i32⟩
  | 84 => ⟨S128, .i32⟩
  | 85 => ⟨S128, .i32⟩
  | 86 => ⟨S_, .i32⟩
  | 87 => ⟨S128, .i32⟩
  | 88 => ⟨S128, .i32⟩
  | 89 => ⟨S128, .i32⟩
  | 90 => ⟨S128, .i32⟩
  | 91 => ⟨S128, .i32⟩
  | 92 => ⟨S128, .i32⟩
  | 93 => ⟨S128, .i32⟩
  | 94 => ⟨S128, .i1⟩
  | 95 => ⟨S_, .i32⟩
  | 96 => ⟨S128, .i32⟩
  | 97 => ⟨S128, .i32⟩
  | 98 => ⟨S128, .i32⟩
  | 99 => ⟨S128, .i1⟩
  | 100 => ⟨S128, .i1⟩
  | 101 => ⟨S_, .i32⟩
  | 102 => ⟨S128, .i32⟩
  | 103 => ⟨S128, .i32⟩
  | 104 => ⟨S128, .i32⟩
  | 105 => ⟨S_, .i32⟩
  | 106 => ⟨S128, .i32⟩
  | 107 => ⟨S128, .i32⟩
  | 108 => ⟨S128, .i32⟩
  | 109 => ⟨S128, .i32⟩
  | 110 => ⟨S128, .i32⟩
  | 111 => ⟨S128, .i32⟩
  | 112 => ⟨S128, .i32⟩
  | 113 => ⟨S128, .i32⟩
  | 114 => ⟨S128, .i32⟩
  | 115 => ⟨S128, .i32⟩
  | 116 => ⟨S128, .i32⟩
  | 117 => ⟨S128, .i32⟩
  | 118 => ⟨S128, .i32⟩
  | 119 => ⟨S1x128, .i32⟩
  | 120 => ⟨S128x1, .i32⟩
  | 121 => ⟨S128x128, .i32⟩
  | 122 => ⟨S128x128, .i32⟩
  | 123 => ⟨S128x128, .i1⟩
  | 124 => ⟨S1x128, .i32⟩
  | 125 => ⟨S128, .i32⟩
  | 126 => ⟨S128x1, .i32⟩
  | 127 => ⟨S128x128, .i32⟩
  | _ => ⟨S128x128x3000, .f32⟩

abbrev hbmTy0_14 (i : Nat) : BufTy := match i % 128 with
  | 0 => ⟨S128x128, .i32⟩
  | 1 => ⟨S128x128, .i1⟩
  | 2 => ⟨S128x128, .i1⟩
  | 3 => ⟨S128x128x1, .i1⟩
  | 4 => ⟨S_, .f32⟩
  | 5 => ⟨S128x128x3000, .i1⟩
  | 6 => ⟨S128x128x3000, .f32⟩
  | 7 => ⟨S128x128x3000, .f32⟩
  | _ => ⟨S128x128x3000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S128x128x3000, .f32⟩

abbrev bufTy : (tb : Table) → Fin (tcTables nBuf tb) → BufTy
  | .hbm, ⟨i, _⟩ => hbmTy i
  | _, _ => ⟨S128x128x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_c_2 : Ref sig .tc := ⟨.hbm, 253, rfl⟩
abbrev main_c_3 : Ref sig .tc := ⟨.hbm, 254, rfl⟩
abbrev main_call1_c : Ref sig .tc := ⟨.hbm, 255, rfl⟩
abbrev main_call1_c_0 : Ref sig .tc := ⟨.hbm, 256, rfl⟩
abbrev main_call1_c_1 : Ref sig .tc := ⟨.hbm, 257, rfl⟩
abbrev main_call1_call0_v0 : Ref sig .tc := ⟨.hbm, 258, rfl⟩
abbrev main_call1_v0 : Ref sig .tc := ⟨.hbm, 259, rfl⟩
abbrev main_call1_v1 : Ref sig .tc := ⟨.hbm, 260, rfl⟩
abbrev main_call1_c_2 : Ref sig .tc := ⟨.hbm, 261, rfl⟩
abbrev main_call1_c_3 : Ref sig .tc := ⟨.hbm, 262, rfl⟩
abbrev main_call1_call1_v0 : Ref sig .tc := ⟨.hbm, 263, rfl⟩
abbrev main_call1_v2 : Ref sig .tc := ⟨.hbm, 264, rfl⟩
abbrev main_call1_v3 : Ref sig .tc := ⟨.hbm, 265, rfl⟩
abbrev main_call1_c_4 : Ref sig .tc := ⟨.hbm, 266, rfl⟩
abbrev main_call1_c_5 : Ref sig .tc := ⟨.hbm, 267, rfl⟩
abbrev main_call1_call2_v0 : Ref sig .tc := ⟨.hbm, 268, rfl⟩
abbrev main_call1_v4 : Ref sig .tc := ⟨.hbm, 269, rfl⟩
abbrev main_call1_v5 : Ref sig .tc := ⟨.hbm, 270, rfl⟩
abbrev main_call1_v6 : Ref sig .tc := ⟨.hbm, 271, rfl⟩
abbrev main_call1_v7 : Ref sig .tc := ⟨.hbm, 272, rfl⟩
abbrev main_call1_call3_v0 : Ref sig .tc := ⟨.hbm, 273, rfl⟩
abbrev main_call1_call3_v1 : Ref sig .tc := ⟨.hbm, 274, rfl⟩
abbrev main_call1_call3_v2 : Ref sig .tc := ⟨.hbm, 275, rfl⟩
abbrev main_call1_call3_v3 : Ref sig .tc := ⟨.hbm, 276, rfl⟩
abbrev main_call1_call3_v4 : Ref sig .tc := ⟨.hbm, 277, rfl⟩
abbrev main_call1_call3_c : Ref sig .tc := ⟨.hbm, 278, rfl⟩
abbrev main_call1_call3_v5 : Ref sig .tc := ⟨.hbm, 279, rfl⟩
abbrev main_call1_call3_v6 : Ref sig .tc := ⟨.hbm, 280, rfl⟩
abbrev main_call1_call3_c_0 : Ref sig .tc := ⟨.hbm, 281, rfl⟩
abbrev main_call1_call3_v7 : Ref sig .tc := ⟨.hbm, 282, rfl⟩
abbrev main_call1_call3_v8 : Ref sig .tc := ⟨.hbm, 283, rfl⟩
abbrev main_call1_call3_v9 : Ref sig .tc := ⟨.hbm, 284, rfl⟩
abbrev main_call1_call3_v10 : Ref sig .tc := ⟨.hbm, 285, rfl⟩
abbrev main_call1_call3_call0_v0 : Ref sig .tc := ⟨.hbm, 286, rfl⟩
abbrev main_call1_call3_call0_c : Ref sig .tc := ⟨.hbm, 287, rfl⟩
abbrev main_call1_call3_call0_v1 : Ref sig .tc := ⟨.hbm, 288, rfl⟩
abbrev main_call1_call3_call0_v2 : Ref sig .tc := ⟨.hbm, 289, rfl⟩
abbrev main_call1_call3_call0_v3 : Ref sig .tc := ⟨.hbm, 290, rfl⟩
abbrev main_call1_call3_call0_v4 : Ref sig .tc := ⟨.hbm, 291, rfl⟩
abbrev main_call1_call3_call0_v5 : Ref sig .tc := ⟨.hbm, 292, rfl⟩
abbrev main_call1_call3_call0_v6 : Ref sig .tc := ⟨.hbm, 293, rfl⟩
abbrev main_call1_call3_call0_c_0 : Ref sig .tc := ⟨.hbm, 294, rfl⟩
abbrev main_call1_call3_call0_v7 : Ref sig .tc := ⟨.hbm, 295, rfl⟩
abbrev main_call1_call3_call0_v8 : Ref sig .tc := ⟨.hbm, 296, rfl⟩
abbrev main_call1_call3_call0_c_1 : Ref sig .tc := ⟨.hbm, 297, rfl⟩
abbrev main_call1_call3_call0_v9 : Ref sig .tc := ⟨.hbm, 298, rfl⟩
abbrev main_call1_call3_call0_v10 : Ref sig .tc := ⟨.hbm, 299, rfl⟩
abbrev main_call1_call3_call0_v11 : Ref sig .tc := ⟨.hbm, 300, rfl⟩
abbrev main_call1_call3_call0_v12 : Ref sig .tc := ⟨.hbm, 301, rfl⟩
abbrev main_call1_call3_call0_v13 : Ref sig .tc := ⟨.hbm, 302, rfl⟩
abbrev main_call1_call3_call0_c_2 : Ref sig .tc := ⟨.hbm, 303, rfl⟩
abbrev main_call1_call3_call0_v14 : Ref sig .tc := ⟨.hbm, 304, rfl⟩
abbrev main_call1_call3_call0_v15 : Ref sig .tc := ⟨.hbm, 305, rfl⟩
abbrev main_call1_call3_call0_c_3 : Ref sig .tc := ⟨.hbm, 306, rfl⟩
abbrev main_call1_call3_call0_v16 : Ref sig .tc := ⟨.hbm, 307, rfl⟩
abbrev main_call1_call3_call0_v17 : Ref sig .tc := ⟨.hbm, 308, rfl⟩
abbrev main_call1_call3_call0_v18 : Ref sig .tc := ⟨.hbm, 309, rfl⟩
abbrev main_call1_call3_call0_v19 : Ref sig .tc := ⟨.hbm, 310, rfl⟩
abbrev main_call1_call3_call0_v20 : Ref sig .tc := ⟨.hbm, 311, rfl⟩
abbrev main_call1_call3_call0_c_4 : Ref sig .tc := ⟨.hbm, 312, rfl⟩
abbrev main_call1_call3_call0_v21 : Ref sig .tc := ⟨.hbm, 313, rfl⟩
abbrev main_call1_call3_call0_v22 : Ref sig .tc := ⟨.hbm, 314, rfl⟩
abbrev main_call1_call3_call0_c_5 : Ref sig .tc := ⟨.hbm, 315, rfl⟩
abbrev main_call1_call3_call0_v23 : Ref sig .tc := ⟨.hbm, 316, rfl⟩
abbrev main_call1_call3_call0_v24 : Ref sig .tc := ⟨.hbm, 317, rfl⟩
abbrev main_call1_call3_call0_v25 : Ref sig .tc := ⟨.hbm, 318, rfl⟩
abbrev main_call1_call3_call0_v26 : Ref sig .tc := ⟨.hbm, 319, rfl⟩
abbrev main_call1_call3_call0_v27 : Ref sig .tc := ⟨.hbm, 320, rfl⟩
abbrev main_call1_call3_call0_c_6 : Ref sig .tc := ⟨.hbm, 321, rfl⟩
abbrev main_call1_call3_call0_v28 : Ref sig .tc := ⟨.hbm, 322, rfl⟩
abbrev main_call1_call3_call0_v29 : Ref sig .tc := ⟨.hbm, 323, rfl⟩
abbrev main_call1_call3_call0_c_7 : Ref sig .tc := ⟨.hbm, 324, rfl⟩
abbrev main_call1_call3_call0_v30 : Ref sig .tc := ⟨.hbm, 325, rfl⟩
abbrev main_call1_call3_call0_v31 : Ref sig .tc := ⟨.hbm, 326, rfl⟩
abbrev main_call1_call3_call0_v32 : Ref sig .tc := ⟨.hbm, 327, rfl⟩
abbrev main_call1_call3_call0_v33 : Ref sig .tc := ⟨.hbm, 328, rfl⟩
abbrev main_call1_call3_call0_v34 : Ref sig .tc := ⟨.hbm, 329, rfl⟩
abbrev main_call1_call3_call0_v35 : Ref sig .tc := ⟨.hbm, 330, rfl⟩
abbrev main_call1_call3_call0_v36 : Ref sig .tc := ⟨.hbm, 331, rfl⟩
abbrev main_call1_call3_call0_v37 : Ref sig .tc := ⟨.hbm, 332, rfl⟩
abbrev main_call1_call3_call0_c_8 : Ref sig .tc := ⟨.hbm, 333, rfl⟩
abbrev main_call1_call3_call0_v38 : Ref sig .tc := ⟨.hbm, 334, rfl⟩
abbrev main_call1_call3_call0_v39 : Ref sig .tc := ⟨.hbm, 335, rfl⟩
abbrev main_call1_call3_call0_v40 : Ref sig .tc := ⟨.hbm, 336, rfl⟩
abbrev main_call1_call3_call0_c_9 : Ref sig .tc := ⟨.hbm, 337, rfl⟩
abbrev main_call1_call3_call0_v41 : Ref sig .tc := ⟨.hbm, 338, rfl⟩
abbrev main_call1_call3_call0_v42 : Ref sig .tc := ⟨.hbm, 339, rfl⟩
abbrev main_call1_call3_call0_c_10 : Ref sig .tc := ⟨.hbm, 340, rfl⟩
abbrev main_call1_call3_call0_v43 : Ref sig .tc := ⟨.hbm, 341, rfl⟩
abbrev main_call1_call3_call0_v44 : Ref sig .tc := ⟨.hbm, 342, rfl⟩
abbrev main_call1_call3_call0_v45 : Ref sig .tc := ⟨.hbm, 343, rfl⟩
abbrev main_call1_call3_call0_v46 : Ref sig .tc := ⟨.hbm, 344, rfl⟩
abbrev main_call1_call3_call0_v47 : Ref sig .tc := ⟨.hbm, 345, rfl⟩
abbrev main_call1_call3_call0_c_11 : Ref sig .tc := ⟨.hbm, 346, rfl⟩
abbrev main_call1_call3_call0_v48 : Ref sig .tc := ⟨.hbm, 347, rfl⟩
abbrev main_call1_call3_call0_v49 : Ref sig .tc := ⟨.hbm, 348, rfl⟩
abbrev main_call1_call3_call0_c_12 : Ref sig .tc := ⟨.hbm, 349, rfl⟩
abbrev main_call1_call3_call0_v50 : Ref sig .tc := ⟨.hbm, 350, rfl⟩
abbrev main_call1_call3_call0_v51 : Ref sig .tc := ⟨.hbm, 351, rfl⟩
abbrev main_call1_call3_call0_v52 : Ref sig .tc := ⟨.hbm, 352, rfl⟩
abbrev main_call1_call3_call0_v53 : Ref sig .tc := ⟨.hbm, 353, rfl⟩
abbrev main_call1_call3_call0_v54 : Ref sig .tc := ⟨.hbm, 354, rfl⟩
abbrev main_call1_call3_call0_c_13 : Ref sig .tc := ⟨.hbm, 355, rfl⟩
abbrev main_call1_call3_call0_v55 : Ref sig .tc := ⟨.hbm, 356, rfl⟩
abbrev main_call1_call3_call0_v56 : Ref sig .tc := ⟨.hbm, 357, rfl⟩
abbrev main_call1_call3_call0_c_14 : Ref sig .tc := ⟨.hbm, 358, rfl⟩
abbrev main_call1_call3_call0_v57 : Ref sig .tc := ⟨.hbm, 359, rfl⟩
abbrev main_call1_call3_call0_v58 : Ref sig .tc := ⟨.hbm, 360, rfl⟩
abbrev main_call1_call3_call0_v59 : Ref sig .tc := ⟨.hbm, 361, rfl⟩
abbrev main_call1_call3_call0_v60 : Ref sig .tc := ⟨.hbm, 362, rfl⟩
abbrev main_call1_call3_call0_v61 : Ref sig .tc := ⟨.hbm, 363, rfl⟩
abbrev main_call1_call3_call0_c_15 : Ref sig .tc := ⟨.hbm, 364, rfl⟩
abbrev main_call1_call3_call0_v62 : Ref sig .tc := ⟨.hbm, 365, rfl⟩
abbrev main_call1_call3_call0_v63 : Ref sig .tc := ⟨.hbm, 366, rfl⟩
abbrev main_call1_call3_call0_c_16 : Ref sig .tc := ⟨.hbm, 367, rfl⟩
abbrev main_call1_call3_call0_v64 : Ref sig .tc := ⟨.hbm, 368, rfl⟩
abbrev main_call1_call3_call0_v65 : Ref sig .tc := ⟨.hbm, 369, rfl⟩
abbrev main_call1_call3_call0_v66 : Ref sig .tc := ⟨.hbm, 370, rfl⟩
abbrev main_call1_call3_call0_v67 : Ref sig .tc := ⟨.hbm, 371, rfl⟩
abbrev main_call1_call3_call0_v68 : Ref sig .tc := ⟨.hbm, 372, rfl⟩
abbrev main_call1_call3_call0_v69 : Ref sig .tc := ⟨.hbm, 373, rfl⟩
abbrev main_call1_call3_call0_v70 : Ref sig .tc := ⟨.hbm, 374, rfl⟩
abbrev main_call1_call3_call0_v71 : Ref sig .tc := ⟨.hbm, 375, rfl⟩
abbrev main_call1_call3_call0_c_17 : Ref sig .tc := ⟨.hbm, 376, rfl⟩
abbrev main_call1_call3_call0_v72 : Ref sig .tc := ⟨.hbm, 377, rfl⟩
abbrev main_call1_call3_call0_v73 : Ref sig .tc := ⟨.hbm, 378, rfl⟩
abbrev main_call1_call3_call0_v74 : Ref sig .tc := ⟨.hbm, 379, rfl⟩
abbrev main_call1_call3_call0_c_18 : Ref sig .tc := ⟨.hbm, 380, rfl⟩
abbrev main_call1_call3_call0_v75 : Ref sig .tc := ⟨.hbm, 381, rfl⟩
abbrev main_call1_call3_call0_v76 : Ref sig .tc := ⟨.hbm, 382, rfl⟩
abbrev main_call1_call3_call0_c_19 : Ref sig .tc := ⟨.hbm, 383, rfl⟩
abbrev main_call1_call3_call0_v77 : Ref sig .tc := ⟨.hbm, 384, rfl⟩
abbrev main_call1_call3_call0_v78 : Ref sig .tc := ⟨.hbm, 385, rfl⟩
abbrev main_call1_call3_call0_v79 : Ref sig .tc := ⟨.hbm, 386, rfl⟩
abbrev main_call1_call3_call0_v80 : Ref sig .tc := ⟨.hbm, 387, rfl⟩
abbrev main_call1_call3_call0_v81 : Ref sig .tc := ⟨.hbm, 388, rfl⟩
abbrev main_call1_call3_call0_c_20 : Ref sig .tc := ⟨.hbm, 389, rfl⟩
abbrev main_call1_call3_call0_v82 : Ref sig .tc := ⟨.hbm, 390, rfl⟩
abbrev main_call1_call3_call0_v83 : Ref sig .tc := ⟨.hbm, 391, rfl⟩
abbrev main_call1_call3_call0_c_21 : Ref sig .tc := ⟨.hbm, 392, rfl⟩
abbrev main_call1_call3_call0_v84 : Ref sig .tc := ⟨.hbm, 393, rfl⟩
abbrev main_call1_call3_call0_v85 : Ref sig .tc := ⟨.hbm, 394, rfl⟩
abbrev main_call1_call3_call0_v86 : Ref sig .tc := ⟨.hbm, 395, rfl⟩
abbrev main_call1_call3_call0_v87 : Ref sig .tc := ⟨.hbm, 396, rfl⟩
abbrev main_call1_call3_call0_v88 : Ref sig .tc := ⟨.hbm, 397, rfl⟩
abbrev main_call1_call3_call0_c_22 : Ref sig .tc := ⟨.hbm, 398, rfl⟩
abbrev main_call1_call3_call0_v89 : Ref sig .tc := ⟨.hbm, 399, rfl⟩
abbrev main_call1_call3_call0_v90 : Ref sig .tc := ⟨.hbm, 400, rfl⟩
abbrev main_call1_call3_call0_c_23 : Ref sig .tc := ⟨.hbm, 401, rfl⟩
abbrev main_call1_call3_call0_v91 : Ref sig .tc := ⟨.hbm, 402, rfl⟩
abbrev main_call1_call3_call0_v92 : Ref sig .tc := ⟨.hbm, 403, rfl⟩
abbrev main_call1_call3_call0_v93 : Ref sig .tc := ⟨.hbm, 404, rfl⟩
abbrev main_call1_call3_call0_v94 : Ref sig .tc := ⟨.hbm, 405, rfl⟩
abbrev main_call1_call3_call0_v95 : Ref sig .tc := ⟨.hbm, 406, rfl⟩
abbrev main_call1_call3_call0_c_24 : Ref sig .tc := ⟨.hbm, 407, rfl⟩
abbrev main_call1_call3_call0_v96 : Ref sig .tc := ⟨.hbm, 408, rfl⟩
abbrev main_call1_call3_call0_v97 : Ref sig .tc := ⟨.hbm, 409, rfl⟩
abbrev main_call1_call3_call0_c_25 : Ref sig .tc := ⟨.hbm, 410, rfl⟩
abbrev main_call1_call3_call0_v98 : Ref sig .tc := ⟨.hbm, 411, rfl⟩
abbrev main_call1_call3_call0_v99 : Ref sig .tc := ⟨.hbm, 412, rfl⟩
abbrev main_call1_call3_call0_v100 : Ref sig .tc := ⟨.hbm, 413, rfl⟩
abbrev main_call1_call3_call0_v101 : Ref sig .tc := ⟨.hbm, 414, rfl⟩
abbrev main_call1_call3_call0_v102 : Ref sig .tc := ⟨.hbm, 415, rfl⟩
abbrev main_call1_call3_call0_v103 : Ref sig .tc := ⟨.hbm, 416, rfl⟩
abbrev main_call1_call3_call0_v104 : Ref sig .tc := ⟨.hbm, 417, rfl⟩
abbrev main_call1_call3_call0_v105 : Ref sig .tc := ⟨.hbm, 418, rfl⟩
abbrev main_call1_call3_call0_c_26 : Ref sig .tc := ⟨.hbm, 419, rfl⟩
abbrev main_call1_call3_call0_v106 : Ref sig .tc := ⟨.hbm, 420, rfl⟩
abbrev main_call1_call3_call0_v107 : Ref sig .tc := ⟨.hbm, 421, rfl⟩
abbrev main_call1_call3_call0_v108 : Ref sig .tc := ⟨.hbm, 422, rfl⟩
abbrev main_call1_call3_call0_c_27 : Ref sig .tc := ⟨.hbm, 423, rfl⟩
abbrev main_call1_call3_call0_v109 : Ref sig .tc := ⟨.hbm, 424, rfl⟩
abbrev main_call1_call3_call0_v110 : Ref sig .tc := ⟨.hbm, 425, rfl⟩
abbrev main_call1_call3_call0_c_28 : Ref sig .tc := ⟨.hbm, 426, rfl⟩
abbrev main_call1_call3_call0_v111 : Ref sig .tc := ⟨.hbm, 427, rfl⟩
abbrev main_call1_call3_call0_v112 : Ref sig .tc := ⟨.hbm, 428, rfl⟩
abbrev main_call1_call3_call0_v113 : Ref sig .tc := ⟨.hbm, 429, rfl⟩
abbrev main_call1_call3_call0_v114 : Ref sig .tc := ⟨.hbm, 430, rfl⟩
abbrev main_call1_call3_call0_v115 : Ref sig .tc := ⟨.hbm, 431, rfl⟩
abbrev main_call1_call3_call0_c_29 : Ref sig .tc := ⟨.hbm, 432, rfl⟩
abbrev main_call1_call3_call0_v116 : Ref sig .tc := ⟨.hbm, 433, rfl⟩
abbrev main_call1_call3_call0_v117 : Ref sig .tc := ⟨.hbm, 434, rfl⟩
abbrev main_call1_call3_call0_c_30 : Ref sig .tc := ⟨.hbm, 435, rfl⟩
abbrev main_call1_call3_call0_v118 : Ref sig .tc := ⟨.hbm, 436, rfl⟩
abbrev main_call1_call3_call0_v119 : Ref sig .tc := ⟨.hbm, 437, rfl⟩
abbrev main_call1_call3_call0_v120 : Ref sig .tc := ⟨.hbm, 438, rfl⟩
abbrev main_call1_call3_call0_v121 : Ref sig .tc := ⟨.hbm, 439, rfl⟩
abbrev main_call1_call3_call0_v122 : Ref sig .tc := ⟨.hbm, 440, rfl⟩
abbrev main_call1_call3_call0_c_31 : Ref sig .tc := ⟨.hbm, 441, rfl⟩
abbrev main_call1_call3_call0_v123 : Ref sig .tc := ⟨.hbm, 442, rfl⟩
abbrev main_call1_call3_call0_v124 : Ref sig .tc := ⟨.hbm, 443, rfl⟩
abbrev main_call1_call3_call0_c_32 : Ref sig .tc := ⟨.hbm, 444, rfl⟩
abbrev main_call1_call3_call0_v125 : Ref sig .tc := ⟨.hbm, 445, rfl⟩
abbrev main_call1_call3_call0_v126 : Ref sig .tc := ⟨.hbm, 446, rfl⟩
abbrev main_call1_call3_call0_v127 : Ref sig .tc := ⟨.hbm, 447, rfl⟩
abbrev main_call1_call3_call0_v128 : Ref sig .tc := ⟨.hbm, 448, rfl⟩
abbrev main_call1_call3_call0_v129 : Ref sig .tc := ⟨.hbm, 449, rfl⟩
abbrev main_call1_call3_call0_c_33 : Ref sig .tc := ⟨.hbm, 450, rfl⟩
abbrev main_call1_call3_call0_v130 : Ref sig .tc := ⟨.hbm, 451, rfl⟩
abbrev main_call1_call3_call0_v131 : Ref sig .tc := ⟨.hbm, 452, rfl⟩
abbrev main_call1_call3_call0_c_34 : Ref sig .tc := ⟨.hbm, 453, rfl⟩
abbrev main_call1_call3_call0_v132 : Ref sig .tc := ⟨.hbm, 454, rfl⟩
abbrev main_call1_call3_call0_v133 : Ref sig .tc := ⟨.hbm, 455, rfl⟩
abbrev main_call1_call3_call0_v134 : Ref sig .tc := ⟨.hbm, 456, rfl⟩
abbrev main_call1_call3_call0_v135 : Ref sig .tc := ⟨.hbm, 457, rfl⟩
abbrev main_call1_call3_call0_v136 : Ref sig .tc := ⟨.hbm, 458, rfl⟩
abbrev main_call1_call3_call0_v137 : Ref sig .tc := ⟨.hbm, 459, rfl⟩
abbrev main_call1_call3_call0_v138 : Ref sig .tc := ⟨.hbm, 460, rfl⟩
abbrev main_call1_call3_call0_v139 : Ref sig .tc := ⟨.hbm, 461, rfl⟩
abbrev main_call1_call3_call0_c_35 : Ref sig .tc := ⟨.hbm, 462, rfl⟩
abbrev main_call1_call3_call0_v140 : Ref sig .tc := ⟨.hbm, 463, rfl⟩
abbrev main_call1_call3_call0_v141 : Ref sig .tc := ⟨.hbm, 464, rfl⟩
abbrev main_call1_call3_call0_v142 : Ref sig .tc := ⟨.hbm, 465, rfl⟩
abbrev main_call1_call3_call0_c_36 : Ref sig .tc := ⟨.hbm, 466, rfl⟩
abbrev main_call1_call3_call0_v143 : Ref sig .tc := ⟨.hbm, 467, rfl⟩
abbrev main_call1_call3_call0_v144 : Ref sig .tc := ⟨.hbm, 468, rfl⟩
abbrev main_call1_call3_call0_c_37 : Ref sig .tc := ⟨.hbm, 469, rfl⟩
abbrev main_call1_call3_call0_v145 : Ref sig .tc := ⟨.hbm, 470, rfl⟩
abbrev main_call1_call3_call0_v146 : Ref sig .tc := ⟨.hbm, 471, rfl⟩
abbrev main_call1_call3_call0_v147 : Ref sig .tc := ⟨.hbm, 472, rfl⟩
abbrev main_call1_call3_call0_v148 : Ref sig .tc := ⟨.hbm, 473, rfl⟩
abbrev main_call1_call3_call0_v149 : Ref sig .tc := ⟨.hbm, 474, rfl⟩
abbrev main_call1_call3_call0_c_38 : Ref sig .tc := ⟨.hbm, 475, rfl⟩
abbrev main_call1_call3_call0_v150 : Ref sig .tc := ⟨.hbm, 476, rfl⟩
abbrev main_call1_call3_call0_v151 : Ref sig .tc := ⟨.hbm, 477, rfl⟩
abbrev main_call1_call3_call0_c_39 : Ref sig .tc := ⟨.hbm, 478, rfl⟩
abbrev main_call1_call3_call0_v152 : Ref sig .tc := ⟨.hbm, 479, rfl⟩
abbrev main_call1_call3_call0_v153 : Ref sig .tc := ⟨.hbm, 480, rfl⟩
abbrev main_call1_call3_call0_v154 : Ref sig .tc := ⟨.hbm, 481, rfl⟩
abbrev main_call1_call3_call0_v155 : Ref sig .tc := ⟨.hbm, 482, rfl⟩
abbrev main_call1_call3_call0_v156 : Ref sig .tc := ⟨.hbm, 483, rfl⟩
abbrev main_call1_call3_call0_c_40 : Ref sig .tc := ⟨.hbm, 484, rfl⟩
abbrev main_call1_call3_call0_v157 : Ref sig .tc := ⟨.hbm, 485, rfl⟩
abbrev main_call1_call3_call0_v158 : Ref sig .tc := ⟨.hbm, 486, rfl⟩
abbrev main_call1_call3_call0_c_41 : Ref sig .tc := ⟨.hbm, 487, rfl⟩
abbrev main_call1_call3_call0_v159 : Ref sig .tc := ⟨.hbm, 488, rfl⟩
abbrev main_call1_call3_call0_v160 : Ref sig .tc := ⟨.hbm, 489, rfl⟩
abbrev main_call1_call3_call0_v161 : Ref sig .tc := ⟨.hbm, 490, rfl⟩
abbrev main_call1_call3_call0_v162 : Ref sig .tc := ⟨.hbm, 491, rfl⟩
abbrev main_call1_call3_call0_v163 : Ref sig .tc := ⟨.hbm, 492, rfl⟩
abbrev main_call1_call3_call0_c_42 : Ref sig .tc := ⟨.hbm, 493, rfl⟩
abbrev main_call1_call3_call0_v164 : Ref sig .tc := ⟨.hbm, 494, rfl⟩
abbrev main_call1_call3_call0_v165 : Ref sig .tc := ⟨.hbm, 495, rfl⟩
abbrev main_call1_call3_call0_c_43 : Ref sig .tc := ⟨.hbm, 496, rfl⟩
abbrev main_call1_call3_call0_v166 : Ref sig .tc := ⟨.hbm, 497, rfl⟩
abbrev main_call1_call3_call0_v167 : Ref sig .tc := ⟨.hbm, 498, rfl⟩
abbrev main_call1_call3_call0_v168 : Ref sig .tc := ⟨.hbm, 499, rfl⟩
abbrev main_call1_call3_call0_v169 : Ref sig .tc := ⟨.hbm, 500, rfl⟩
abbrev main_call1_call3_call0_v170 : Ref sig .tc := ⟨.hbm, 501, rfl⟩
abbrev main_call1_call3_v11_0 : Ref sig .tc := ⟨.hbm, 502, rfl⟩
abbrev main_call1_call3_call0_v172 : Ref sig .tc := ⟨.hbm, 503, rfl⟩
abbrev main_call1_call3_call0_v173 : Ref sig .tc := ⟨.hbm, 504, rfl⟩
abbrev main_call1_call3_call0_c_44 : Ref sig .tc := ⟨.hbm, 505, rfl⟩
abbrev main_call1_call3_call0_v174 : Ref sig .tc := ⟨.hbm, 506, rfl⟩
abbrev main_call1_call3_v11_1 : Ref sig .tc := ⟨.hbm, 507, rfl⟩
abbrev main_call1_call3_v12 : Ref sig .tc := ⟨.hbm, 508, rfl⟩
abbrev main_call1_call3_v13 : Ref sig .tc := ⟨.hbm, 509, rfl⟩
abbrev main_call1_v8 : Ref sig .tc := ⟨.hbm, 510, rfl⟩
abbrev main_call1_v9 : Ref sig .tc := ⟨.hbm, 511, rfl⟩
abbrev main_call1_v10 : Ref sig .tc := ⟨.hbm, 512, rfl⟩
abbrev main_call1_v11 : Ref sig .tc := ⟨.hbm, 513, rfl⟩
abbrev main_call1_v12 : Ref sig .tc := ⟨.hbm, 514, rfl⟩
abbrev main_call1_v13 : Ref sig .tc := ⟨.hbm, 515, rfl⟩
abbrev main_call1_v14 : Ref sig .tc := ⟨.hbm, 516, rfl⟩
abbrev main_call1_v15 : Ref sig .tc := ⟨.hbm, 517, rfl⟩
abbrev main_call1_v16 : Ref sig .tc := ⟨.hbm, 518, rfl⟩
abbrev main_call1_v17 : Ref sig .tc := ⟨.hbm, 519, rfl⟩
abbrev main_call1_c_6 : Ref sig .tc := ⟨.hbm, 520, rfl⟩
abbrev main_call1_v18 : Ref sig .tc := ⟨.hbm, 521, rfl⟩
abbrev main_call1_v19 : Ref sig .tc := ⟨.hbm, 522, rfl⟩
abbrev main_call1_c_7 : Ref sig .tc := ⟨.hbm, 523, rfl⟩
abbrev main_call1_v20 : Ref sig .tc := ⟨.hbm, 524, rfl⟩
abbrev main_call1_v21 : Ref sig .tc := ⟨.hbm, 525, rfl⟩
abbrev main_call1_v22 : Ref sig .tc := ⟨.hbm, 526, rfl⟩
abbrev main_call1_v23 : Ref sig .tc := ⟨.hbm, 527, rfl⟩
abbrev main_call1_call4_v0 : Ref sig .tc := ⟨.hbm, 528, rfl⟩
abbrev main_call1_call4_c : Ref sig .tc := ⟨.hbm, 529, rfl⟩
abbrev main_call1_call4_v1 : Ref sig .tc := ⟨.hbm, 530, rfl⟩
abbrev main_call1_call4_v2 : Ref sig .tc := ⟨.hbm, 531, rfl⟩
abbrev main_call1_call4_v3 : Ref sig .tc := ⟨.hbm, 532, rfl⟩
abbrev main_call1_call4_v4 : Ref sig .tc := ⟨.hbm, 533, rfl⟩
abbrev main_call1_call4_v5 : Ref sig .tc := ⟨.hbm, 534, rfl⟩
abbrev main_call1_call4_v6 : Ref sig .tc := ⟨.hbm, 535, rfl⟩
abbrev main_call1_call4_c_0 : Ref sig .tc := ⟨.hbm, 536, rfl⟩
abbrev main_call1_call4_v7 : Ref sig .tc := ⟨.hbm, 537, rfl⟩
abbrev main_call1_call4_v8 : Ref sig .tc := ⟨.hbm, 538, rfl⟩
abbrev main_call1_call4_c_1 : Ref sig .tc := ⟨.hbm, 539, rfl⟩
abbrev main_call1_call4_v9 : Ref sig .tc := ⟨.hbm, 540, rfl⟩
abbrev main_call1_call4_v10 : Ref sig .tc := ⟨.hbm, 541, rfl⟩
abbrev main_call1_call4_v11 : Ref sig .tc := ⟨.hbm, 542, rfl⟩
abbrev main_call1_call4_v12 : Ref sig .tc := ⟨.hbm, 543, rfl⟩
abbrev main_call1_call4_v13 : Ref sig .tc := ⟨.hbm, 544, rfl⟩
abbrev main_call1_call4_c_2 : Ref sig .tc := ⟨.hbm, 545, rfl⟩
abbrev main_call1_call4_v14 : Ref sig .tc := ⟨.hbm, 546, rfl⟩
abbrev main_call1_call4_v15 : Ref sig .tc := ⟨.hbm, 547, rfl⟩
abbrev main_call1_call4_c_3 : Ref sig .tc := ⟨.hbm, 548, rfl⟩
abbrev main_call1_call4_v16 : Ref sig .tc := ⟨.hbm, 549, rfl⟩
abbrev main_call1_call4_v17 : Ref sig .tc := ⟨.hbm, 550, rfl⟩
abbrev main_call1_call4_v18 : Ref sig .tc := ⟨.hbm, 551, rfl⟩
abbrev main_call1_call4_v19 : Ref sig .tc := ⟨.hbm, 552, rfl⟩
abbrev main_call1_call4_v20 : Ref sig .tc := ⟨.hbm, 553, rfl⟩
abbrev main_call1_call4_c_4 : Ref sig .tc := ⟨.hbm, 554, rfl⟩
abbrev main_call1_call4_v21 : Ref sig .tc := ⟨.hbm, 555, rfl⟩
abbrev main_call1_call4_v22 : Ref sig .tc := ⟨.hbm, 556, rfl⟩
abbrev main_call1_call4_c_5 : Ref sig .tc := ⟨.hbm, 557, rfl⟩
abbrev main_call1_call4_v23 : Ref sig .tc := ⟨.hbm, 558, rfl⟩
abbrev main_call1_call4_v24 : Ref sig .tc := ⟨.hbm, 559, rfl⟩
abbrev main_call1_call4_v25 : Ref sig .tc := ⟨.hbm, 560, rfl⟩
abbrev main_call1_call4_v26 : Ref sig .tc := ⟨.hbm, 561, rfl⟩
abbrev main_call1_call4_v27 : Ref sig .tc := ⟨.hbm, 562, rfl⟩
abbrev main_call1_call4_c_6 : Ref sig .tc := ⟨.hbm, 563, rfl⟩
abbrev main_call1_call4_v28 : Ref sig .tc := ⟨.hbm, 564, rfl⟩
abbrev main_call1_call4_v29 : Ref sig .tc := ⟨.hbm, 565, rfl⟩
abbrev main_call1_call4_c_7 : Ref sig .tc := ⟨.hbm, 566, rfl⟩
abbrev main_call1_call4_v30 : Ref sig .tc := ⟨.hbm, 567, rfl⟩
abbrev main_call1_call4_v31 : Ref sig .tc := ⟨.hbm, 568, rfl⟩
abbrev main_call1_call4_v32 : Ref sig .tc := ⟨.hbm, 569, rfl⟩
abbrev main_call1_call4_v33 : Ref sig .tc := ⟨.hbm, 570, rfl⟩
abbrev main_call1_call4_v34 : Ref sig .tc := ⟨.hbm, 571, rfl⟩
abbrev main_call1_call4_v35 : Ref sig .tc := ⟨.hbm, 572, rfl⟩
abbrev main_call1_call4_v36 : Ref sig .tc := ⟨.hbm, 573, rfl⟩
abbrev main_call1_call4_v37 : Ref sig .tc := ⟨.hbm, 574, rfl⟩
abbrev main_call1_call4_c_8 : Ref sig .tc := ⟨.hbm, 575, rfl⟩
abbrev main_call1_call4_v38 : Ref sig .tc := ⟨.hbm, 576, rfl⟩
abbrev main_call1_call4_v39 : Ref sig .tc := ⟨.hbm, 577, rfl⟩
abbrev main_call1_call4_v40 : Ref sig .tc := ⟨.hbm, 578, rfl⟩
abbrev main_call1_call4_c_9 : Ref sig .tc := ⟨.hbm, 579, rfl⟩
abbrev main_call1_call4_v41 : Ref sig .tc := ⟨.hbm, 580, rfl⟩
abbrev main_call1_call4_v42 : Ref sig .tc := ⟨.hbm, 581, rfl⟩
abbrev main_call1_call4_c_10 : Ref sig .tc := ⟨.hbm, 582, rfl⟩
abbrev main_call1_call4_v43 : Ref sig .tc := ⟨.hbm, 583, rfl⟩
abbrev main_call1_call4_v44 : Ref sig .tc := ⟨.hbm, 584, rfl⟩
abbrev main_call1_call4_v45 : Ref sig .tc := ⟨.hbm, 585, rfl⟩
abbrev main_call1_call4_v46 : Ref sig .tc := ⟨.hbm, 586, rfl⟩
abbrev main_call1_call4_v47 : Ref sig .tc := ⟨.hbm, 587, rfl⟩
abbrev main_call1_call4_c_11 : Ref sig .tc := ⟨.hbm, 588, rfl⟩
abbrev main_call1_call4_v48 : Ref sig .tc := ⟨.hbm, 589, rfl⟩
abbrev main_call1_call4_v49 : Ref sig .tc := ⟨.hbm, 590, rfl⟩
abbrev main_call1_call4_c_12 : Ref sig .tc := ⟨.hbm, 591, rfl⟩
abbrev main_call1_call4_v50 : Ref sig .tc := ⟨.hbm, 592, rfl⟩
abbrev main_call1_call4_v51 : Ref sig .tc := ⟨.hbm, 593, rfl⟩
abbrev main_call1_call4_v52 : Ref sig .tc := ⟨.hbm, 594, rfl⟩
abbrev main_call1_call4_v53 : Ref sig .tc := ⟨.hbm, 595, rfl⟩
abbrev main_call1_call4_v54 : Ref sig .tc := ⟨.hbm, 596, rfl⟩
abbrev main_call1_call4_c_13 : Ref sig .tc := ⟨.hbm, 597, rfl⟩
abbrev main_call1_call4_v55 : Ref sig .tc := ⟨.hbm, 598, rfl⟩
abbrev main_call1_call4_v56 : Ref sig .tc := ⟨.hbm, 599, rfl⟩
abbrev main_call1_call4_c_14 : Ref sig .tc := ⟨.hbm, 600, rfl⟩
abbrev main_call1_call4_v57 : Ref sig .tc := ⟨.hbm, 601, rfl⟩
abbrev main_call1_call4_v58 : Ref sig .tc := ⟨.hbm, 602, rfl⟩
abbrev main_call1_call4_v59 : Ref sig .tc := ⟨.hbm, 603, rfl⟩
abbrev main_call1_call4_v60 : Ref sig .tc := ⟨.hbm, 604, rfl⟩
abbrev main_call1_call4_v61 : Ref sig .tc := ⟨.hbm, 605, rfl⟩
abbrev main_call1_call4_c_15 : Ref sig .tc := ⟨.hbm, 606, rfl⟩
abbrev main_call1_call4_v62 : Ref sig .tc := ⟨.hbm, 607, rfl⟩
abbrev main_call1_call4_v63 : Ref sig .tc := ⟨.hbm, 608, rfl⟩
abbrev main_call1_call4_c_16 : Ref sig .tc := ⟨.hbm, 609, rfl⟩
abbrev main_call1_call4_v64 : Ref sig .tc := ⟨.hbm, 610, rfl⟩
abbrev main_call1_call4_v65 : Ref sig .tc := ⟨.hbm, 611, rfl⟩
abbrev main_call1_call4_v66 : Ref sig .tc := ⟨.hbm, 612, rfl⟩
abbrev main_call1_call4_v67 : Ref sig .tc := ⟨.hbm, 613, rfl⟩
abbrev main_call1_call4_v68 : Ref sig .tc := ⟨.hbm, 614, rfl⟩
abbrev main_call1_call4_v69 : Ref sig .tc := ⟨.hbm, 615, rfl⟩
abbrev main_call1_call4_v70 : Ref sig .tc := ⟨.hbm, 616, rfl⟩
abbrev main_call1_call4_v71 : Ref sig .tc := ⟨.hbm, 617, rfl⟩
abbrev main_call1_call4_c_17 : Ref sig .tc := ⟨.hbm, 618, rfl⟩
abbrev main_call1_call4_v72 : Ref sig .tc := ⟨.hbm, 619, rfl⟩
abbrev main_call1_call4_v73 : Ref sig .tc := ⟨.hbm, 620, rfl⟩
abbrev main_call1_call4_v74 : Ref sig .tc := ⟨.hbm, 621, rfl⟩
abbrev main_call1_call4_c_18 : Ref sig .tc := ⟨.hbm, 622, rfl⟩
abbrev main_call1_call4_v75 : Ref sig .tc := ⟨.hbm, 623, rfl⟩
abbrev main_call1_call4_v76 : Ref sig .tc := ⟨.hbm, 624, rfl⟩
abbrev main_call1_call4_c_19 : Ref sig .tc := ⟨.hbm, 625, rfl⟩
abbrev main_call1_call4_v77 : Ref sig .tc := ⟨.hbm, 626, rfl⟩
abbrev main_call1_call4_v78 : Ref sig .tc := ⟨.hbm, 627, rfl⟩
abbrev main_call1_call4_v79 : Ref sig .tc := ⟨.hbm, 628, rfl⟩
abbrev main_call1_call4_v80 : Ref sig .tc := ⟨.hbm, 629, rfl⟩
abbrev main_call1_call4_v81 : Ref sig .tc := ⟨.hbm, 630, rfl⟩
abbrev main_call1_call4_c_20 : Ref sig .tc := ⟨.hbm, 631, rfl⟩
abbrev main_call1_call4_v82 : Ref sig .tc := ⟨.hbm, 632, rfl⟩
abbrev main_call1_call4_v83 : Ref sig .tc := ⟨.hbm, 633, rfl⟩
abbrev main_call1_call4_c_21 : Ref sig .tc := ⟨.hbm, 634, rfl⟩
abbrev main_call1_call4_v84 : Ref sig .tc := ⟨.hbm, 635, rfl⟩
abbrev main_call1_call4_v85 : Ref sig .tc := ⟨.hbm, 636, rfl⟩
abbrev main_call1_call4_v86 : Ref sig .tc := ⟨.hbm, 637, rfl⟩
abbrev main_call1_call4_v87 : Ref sig .tc := ⟨.hbm, 638, rfl⟩
abbrev main_call1_call4_v88 : Ref sig .tc := ⟨.hbm, 639, rfl⟩
abbrev main_call1_call4_c_22 : Ref sig .tc := ⟨.hbm, 640, rfl⟩
abbrev main_call1_call4_v89 : Ref sig .tc := ⟨.hbm, 641, rfl⟩
abbrev main_call1_call4_v90 : Ref sig .tc := ⟨.hbm, 642, rfl⟩
abbrev main_call1_call4_c_23 : Ref sig .tc := ⟨.hbm, 643, rfl⟩
abbrev main_call1_call4_v91 : Ref sig .tc := ⟨.hbm, 644, rfl⟩
abbrev main_call1_call4_v92 : Ref sig .tc := ⟨.hbm, 645, rfl⟩
abbrev main_call1_call4_v93 : Ref sig .tc := ⟨.hbm, 646, rfl⟩
abbrev main_call1_call4_v94 : Ref sig .tc := ⟨.hbm, 647, rfl⟩
abbrev main_call1_call4_v95 : Ref sig .tc := ⟨.hbm, 648, rfl⟩
abbrev main_call1_call4_c_24 : Ref sig .tc := ⟨.hbm, 649, rfl⟩
abbrev main_call1_call4_v96 : Ref sig .tc := ⟨.hbm, 650, rfl⟩
abbrev main_call1_call4_v97 : Ref sig .tc := ⟨.hbm, 651, rfl⟩
abbrev main_call1_call4_c_25 : Ref sig .tc := ⟨.hbm, 652, rfl⟩
abbrev main_call1_call4_v98 : Ref sig .tc := ⟨.hbm, 653, rfl⟩
abbrev main_call1_call4_v99 : Ref sig .tc := ⟨.hbm, 654, rfl⟩
abbrev main_call1_call4_v100 : Ref sig .tc := ⟨.hbm, 655, rfl⟩
abbrev main_call1_call4_v101 : Ref sig .tc := ⟨.hbm, 656, rfl⟩
abbrev main_call1_call4_v102 : Ref sig .tc := ⟨.hbm, 657, rfl⟩
abbrev main_call1_call4_v103 : Ref sig .tc := ⟨.hbm, 658, rfl⟩
abbrev main_call1_call4_v104 : Ref sig .tc := ⟨.hbm, 659, rfl⟩
abbrev main_call1_call4_v105 : Ref sig .tc := ⟨.hbm, 660, rfl⟩
abbrev main_call1_call4_c_26 : Ref sig .tc := ⟨.hbm, 661, rfl⟩
abbrev main_call1_call4_v106 : Ref sig .tc := ⟨.hbm, 662, rfl⟩
abbrev main_call1_call4_v107 : Ref sig .tc := ⟨.hbm, 663, rfl⟩
abbrev main_call1_call4_v108 : Ref sig .tc := ⟨.hbm, 664, rfl⟩
abbrev main_call1_call4_c_27 : Ref sig .tc := ⟨.hbm, 665, rfl⟩
abbrev main_call1_call4_v109 : Ref sig .tc := ⟨.hbm, 666, rfl⟩
abbrev main_call1_call4_v110 : Ref sig .tc := ⟨.hbm, 667, rfl⟩
abbrev main_call1_call4_c_28 : Ref sig .tc := ⟨.hbm, 668, rfl⟩
abbrev main_call1_call4_v111 : Ref sig .tc := ⟨.hbm, 669, rfl⟩
abbrev main_call1_call4_v112 : Ref sig .tc := ⟨.hbm, 670, rfl⟩
abbrev main_call1_call4_v113 : Ref sig .tc := ⟨.hbm, 671, rfl⟩
abbrev main_call1_call4_v114 : Ref sig .tc := ⟨.hbm, 672, rfl⟩
abbrev main_call1_call4_v115 : Ref sig .tc := ⟨.hbm, 673, rfl⟩
abbrev main_call1_call4_c_29 : Ref sig .tc := ⟨.hbm, 674, rfl⟩
abbrev main_call1_call4_v116 : Ref sig .tc := ⟨.hbm, 675, rfl⟩
abbrev main_call1_call4_v117 : Ref sig .tc := ⟨.hbm, 676, rfl⟩
abbrev main_call1_call4_c_30 : Ref sig .tc := ⟨.hbm, 677, rfl⟩
abbrev main_call1_call4_v118 : Ref sig .tc := ⟨.hbm, 678, rfl⟩
abbrev main_call1_call4_v119 : Ref sig .tc := ⟨.hbm, 679, rfl⟩
abbrev main_call1_call4_v120 : Ref sig .tc := ⟨.hbm, 680, rfl⟩
abbrev main_call1_call4_v121 : Ref sig .tc := ⟨.hbm, 681, rfl⟩
abbrev main_call1_call4_v122 : Ref sig .tc := ⟨.hbm, 682, rfl⟩
abbrev main_call1_call4_c_31 : Ref sig .tc := ⟨.hbm, 683, rfl⟩
abbrev main_call1_call4_v123 : Ref sig .tc := ⟨.hbm, 684, rfl⟩
abbrev main_call1_call4_v124 : Ref sig .tc := ⟨.hbm, 685, rfl⟩
abbrev main_call1_call4_c_32 : Ref sig .tc := ⟨.hbm, 686, rfl⟩
abbrev main_call1_call4_v125 : Ref sig .tc := ⟨.hbm, 687, rfl⟩
abbrev main_call1_call4_v126 : Ref sig .tc := ⟨.hbm, 688, rfl⟩
abbrev main_call1_call4_v127 : Ref sig .tc := ⟨.hbm, 689, rfl⟩
abbrev main_call1_call4_v128 : Ref sig .tc := ⟨.hbm, 690, rfl⟩
abbrev main_call1_call4_v129 : Ref sig .tc := ⟨.hbm, 691, rfl⟩
abbrev main_call1_call4_c_33 : Ref sig .tc := ⟨.hbm, 692, rfl⟩
abbrev main_call1_call4_v130 : Ref sig .tc := ⟨.hbm, 693, rfl⟩
abbrev main_call1_call4_v131 : Ref sig .tc := ⟨.hbm, 694, rfl⟩
abbrev main_call1_call4_c_34 : Ref sig .tc := ⟨.hbm, 695, rfl⟩
abbrev main_call1_call4_v132 : Ref sig .tc := ⟨.hbm, 696, rfl⟩
abbrev main_call1_call4_v133 : Ref sig .tc := ⟨.hbm, 697, rfl⟩
abbrev main_call1_call4_v134 : Ref sig .tc := ⟨.hbm, 698, rfl⟩
abbrev main_call1_call4_v135 : Ref sig .tc := ⟨.hbm, 699, rfl⟩
abbrev main_call1_call4_v136 : Ref sig .tc := ⟨.hbm, 700, rfl⟩
abbrev main_call1_call4_v137 : Ref sig .tc := ⟨.hbm, 701, rfl⟩
abbrev main_call1_call4_v138 : Ref sig .tc := ⟨.hbm, 702, rfl⟩
abbrev main_call1_call4_v139 : Ref sig .tc := ⟨.hbm, 703, rfl⟩
abbrev main_call1_call4_c_35 : Ref sig .tc := ⟨.hbm, 704, rfl⟩
abbrev main_call1_call4_v140 : Ref sig .tc := ⟨.hbm, 705, rfl⟩
abbrev main_call1_call4_v141 : Ref sig .tc := ⟨.hbm, 706, rfl⟩
abbrev main_call1_call4_v142 : Ref sig .tc := ⟨.hbm, 707, rfl⟩
abbrev main_call1_call4_c_36 : Ref sig .tc := ⟨.hbm, 708, rfl⟩
abbrev main_call1_call4_v143 : Ref sig .tc := ⟨.hbm, 709, rfl⟩
abbrev main_call1_call4_v144 : Ref sig .tc := ⟨.hbm, 710, rfl⟩
abbrev main_call1_call4_c_37 : Ref sig .tc := ⟨.hbm, 711, rfl⟩
abbrev main_call1_call4_v145 : Ref sig .tc := ⟨.hbm, 712, rfl⟩
abbrev main_call1_call4_v146 : Ref sig .tc := ⟨.hbm, 713, rfl⟩
abbrev main_call1_call4_v147 : Ref sig .tc := ⟨.hbm, 714, rfl⟩
abbrev main_call1_call4_v148 : Ref sig .tc := ⟨.hbm, 715, rfl⟩
abbrev main_call1_call4_v149 : Ref sig .tc := ⟨.hbm, 716, rfl⟩
abbrev main_call1_call4_c_38 : Ref sig .tc := ⟨.hbm, 717, rfl⟩
abbrev main_call1_call4_v150 : Ref sig .tc := ⟨.hbm, 718, rfl⟩
abbrev main_call1_call4_v151 : Ref sig .tc := ⟨.hbm, 719, rfl⟩
abbrev main_call1_call4_c_39 : Ref sig .tc := ⟨.hbm, 720, rfl⟩
abbrev main_call1_call4_v152 : Ref sig .tc := ⟨.hbm, 721, rfl⟩
abbrev main_call1_call4_v153 : Ref sig .tc := ⟨.hbm, 722, rfl⟩
abbrev main_call1_call4_v154 : Ref sig .tc := ⟨.hbm, 723, rfl⟩
abbrev main_call1_call4_v155 : Ref sig .tc := ⟨.hbm, 724, rfl⟩
abbrev main_call1_call4_v156 : Ref sig .tc := ⟨.hbm, 725, rfl⟩
abbrev main_call1_call4_c_40 : Ref sig .tc := ⟨.hbm, 726, rfl⟩
abbrev main_call1_call4_v157 : Ref sig .tc := ⟨.hbm, 727, rfl⟩
abbrev main_call1_call4_v158 : Ref sig .tc := ⟨.hbm, 728, rfl⟩
abbrev main_call1_call4_c_41 : Ref sig .tc := ⟨.hbm, 729, rfl⟩
abbrev main_call1_call4_v159 : Ref sig .tc := ⟨.hbm, 730, rfl⟩
abbrev main_call1_call4_v160 : Ref sig .tc := ⟨.hbm, 731, rfl⟩
abbrev main_call1_call4_v161 : Ref sig .tc := ⟨.hbm, 732, rfl⟩
abbrev main_call1_call4_v162 : Ref sig .tc := ⟨.hbm, 733, rfl⟩
abbrev main_call1_call4_v163 : Ref sig .tc := ⟨.hbm, 734, rfl⟩
abbrev main_call1_call4_c_42 : Ref sig .tc := ⟨.hbm, 735, rfl⟩
abbrev main_call1_call4_v164 : Ref sig .tc := ⟨.hbm, 736, rfl⟩
abbrev main_call1_call4_v165 : Ref sig .tc := ⟨.hbm, 737, rfl⟩
abbrev main_call1_call4_c_43 : Ref sig .tc := ⟨.hbm, 738, rfl⟩
abbrev main_call1_call4_v166 : Ref sig .tc := ⟨.hbm, 739, rfl⟩
abbrev main_call1_call4_v167 : Ref sig .tc := ⟨.hbm, 740, rfl⟩
abbrev main_call1_call4_v168 : Ref sig .tc := ⟨.hbm, 741, rfl⟩
abbrev main_call1_call4_v169 : Ref sig .tc := ⟨.hbm, 742, rfl⟩
abbrev main_call1_call4_v170 : Ref sig .tc := ⟨.hbm, 743, rfl⟩
abbrev main_call1_v24_0 : Ref sig .tc := ⟨.hbm, 744, rfl⟩
abbrev main_call1_call4_v172 : Ref sig .tc := ⟨.hbm, 745, rfl⟩
abbrev main_call1_call4_v173 : Ref sig .tc := ⟨.hbm, 746, rfl⟩
abbrev main_call1_call4_c_44 : Ref sig .tc := ⟨.hbm, 747, rfl⟩
abbrev main_call1_call4_v174 : Ref sig .tc := ⟨.hbm, 748, rfl⟩
abbrev main_call1_v24_1 : Ref sig .tc := ⟨.hbm, 749, rfl⟩
abbrev main_call1_v25 : Ref sig .tc := ⟨.hbm, 750, rfl⟩
abbrev main_call1_v26 : Ref sig .tc := ⟨.hbm, 751, rfl⟩
abbrev main_call1_v27 : Ref sig .tc := ⟨.hbm, 752, rfl⟩
abbrev main_call1_v28 : Ref sig .tc := ⟨.hbm, 753, rfl⟩
abbrev main_call1_v29 : Ref sig .tc := ⟨.hbm, 754, rfl⟩
abbrev main_call1_v30 : Ref sig .tc := ⟨.hbm, 755, rfl⟩
abbrev main_call1_c_8 : Ref sig .tc := ⟨.hbm, 756, rfl⟩
abbrev main_call1_v31 : Ref sig .tc := ⟨.hbm, 757, rfl⟩
abbrev main_call1_v32 : Ref sig .tc := ⟨.hbm, 758, rfl⟩
abbrev main_call1_c_9 : Ref sig .tc := ⟨.hbm, 759, rfl⟩
abbrev main_call1_v33 : Ref sig .tc := ⟨.hbm, 760, rfl⟩
abbrev main_call1_v34 : Ref sig .tc := ⟨.hbm, 761, rfl⟩
abbrev main_call1_v35 : Ref sig .tc := ⟨.hbm, 762, rfl⟩
abbrev main_call1_v36 : Ref sig .tc := ⟨.hbm, 763, rfl⟩
abbrev main_call1_call5_v0 : Ref sig .tc := ⟨.hbm, 764, rfl⟩
abbrev main_call1_call5_c : Ref sig .tc := ⟨.hbm, 765, rfl⟩
abbrev main_call1_call5_v1 : Ref sig .tc := ⟨.hbm, 766, rfl⟩
abbrev main_call1_call5_v2 : Ref sig .tc := ⟨.hbm, 767, rfl⟩
abbrev main_call1_call5_v3 : Ref sig .tc := ⟨.hbm, 768, rfl⟩
abbrev main_call1_call5_v4 : Ref sig .tc := ⟨.hbm, 769, rfl⟩
abbrev main_call1_call5_v5 : Ref sig .tc := ⟨.hbm, 770, rfl⟩
abbrev main_call1_call5_v6 : Ref sig .tc := ⟨.hbm, 771, rfl⟩
abbrev main_call1_call5_c_0 : Ref sig .tc := ⟨.hbm, 772, rfl⟩
abbrev main_call1_call5_v7 : Ref sig .tc := ⟨.hbm, 773, rfl⟩
abbrev main_call1_call5_v8 : Ref sig .tc := ⟨.hbm, 774, rfl⟩
abbrev main_call1_call5_c_1 : Ref sig .tc := ⟨.hbm, 775, rfl⟩
abbrev main_call1_call5_v9 : Ref sig .tc := ⟨.hbm, 776, rfl⟩
abbrev main_call1_call5_v10 : Ref sig .tc := ⟨.hbm, 777, rfl⟩
abbrev main_call1_call5_v11 : Ref sig .tc := ⟨.hbm, 778, rfl⟩
abbrev main_call1_call5_v12 : Ref sig .tc := ⟨.hbm, 779, rfl⟩
abbrev main_call1_call5_v13 : Ref sig .tc := ⟨.hbm, 780, rfl⟩
abbrev main_call1_call5_c_2 : Ref sig .tc := ⟨.hbm, 781, rfl⟩
abbrev main_call1_call5_v14 : Ref sig .tc := ⟨.hbm, 782, rfl⟩
abbrev main_call1_call5_v15 : Ref sig .tc := ⟨.hbm, 783, rfl⟩
abbrev main_call1_call5_c_3 : Ref sig .tc := ⟨.hbm, 784, rfl⟩
abbrev main_call1_call5_v16 : Ref sig .tc := ⟨.hbm, 785, rfl⟩
abbrev main_call1_call5_v17 : Ref sig .tc := ⟨.hbm, 786, rfl⟩
abbrev main_call1_call5_v18 : Ref sig .tc := ⟨.hbm, 787, rfl⟩
abbrev main_call1_call5_v19 : Ref sig .tc := ⟨.hbm, 788, rfl⟩
abbrev main_call1_call5_v20 : Ref sig .tc := ⟨.hbm, 789, rfl⟩
abbrev main_call1_call5_c_4 : Ref sig .tc := ⟨.hbm, 790, rfl⟩
abbrev main_call1_call5_v21 : Ref sig .tc := ⟨.hbm, 791, rfl⟩
abbrev main_call1_call5_v22 : Ref sig .tc := ⟨.hbm, 792, rfl⟩
abbrev main_call1_call5_c_5 : Ref sig .tc := ⟨.hbm, 793, rfl⟩
abbrev main_call1_call5_v23 : Ref sig .tc := ⟨.hbm, 794, rfl⟩
abbrev main_call1_call5_v24 : Ref sig .tc := ⟨.hbm, 795, rfl⟩
abbrev main_call1_call5_v25 : Ref sig .tc := ⟨.hbm, 796, rfl⟩
abbrev main_call1_call5_v26 : Ref sig .tc := ⟨.hbm, 797, rfl⟩
abbrev main_call1_call5_v27 : Ref sig .tc := ⟨.hbm, 798, rfl⟩
abbrev main_call1_call5_c_6 : Ref sig .tc := ⟨.hbm, 799, rfl⟩
abbrev main_call1_call5_v28 : Ref sig .tc := ⟨.hbm, 800, rfl⟩
abbrev main_call1_call5_v29 : Ref sig .tc := ⟨.hbm, 801, rfl⟩
abbrev main_call1_call5_c_7 : Ref sig .tc := ⟨.hbm, 802, rfl⟩
abbrev main_call1_call5_v30 : Ref sig .tc := ⟨.hbm, 803, rfl⟩
abbrev main_call1_call5_v31 : Ref sig .tc := ⟨.hbm, 804, rfl⟩
abbrev main_call1_call5_v32 : Ref sig .tc := ⟨.hbm, 805, rfl⟩
abbrev main_call1_call5_v33 : Ref sig .tc := ⟨.hbm, 806, rfl⟩
abbrev main_call1_call5_v34 : Ref sig .tc := ⟨.hbm, 807, rfl⟩
abbrev main_call1_call5_v35 : Ref sig .tc := ⟨.hbm, 808, rfl⟩
abbrev main_call1_call5_v36 : Ref sig .tc := ⟨.hbm, 809, rfl⟩
abbrev main_call1_call5_v37 : Ref sig .tc := ⟨.hbm, 810, rfl⟩
abbrev main_call1_call5_c_8 : Ref sig .tc := ⟨.hbm, 811, rfl⟩
abbrev main_call1_call5_v38 : Ref sig .tc := ⟨.hbm, 812, rfl⟩
abbrev main_call1_call5_v39 : Ref sig .tc := ⟨.hbm, 813, rfl⟩
abbrev main_call1_call5_v40 : Ref sig .tc := ⟨.hbm, 814, rfl⟩
abbrev main_call1_call5_c_9 : Ref sig .tc := ⟨.hbm, 815, rfl⟩
abbrev main_call1_call5_v41 : Ref sig .tc := ⟨.hbm, 816, rfl⟩
abbrev main_call1_call5_v42 : Ref sig .tc := ⟨.hbm, 817, rfl⟩
abbrev main_call1_call5_c_10 : Ref sig .tc := ⟨.hbm, 818, rfl⟩
abbrev main_call1_call5_v43 : Ref sig .tc := ⟨.hbm, 819, rfl⟩
abbrev main_call1_call5_v44 : Ref sig .tc := ⟨.hbm, 820, rfl⟩
abbrev main_call1_call5_v45 : Ref sig .tc := ⟨.hbm, 821, rfl⟩
abbrev main_call1_call5_v46 : Ref sig .tc := ⟨.hbm, 822, rfl⟩
abbrev main_call1_call5_v47 : Ref sig .tc := ⟨.hbm, 823, rfl⟩
abbrev main_call1_call5_c_11 : Ref sig .tc := ⟨.hbm, 824, rfl⟩
abbrev main_call1_call5_v48 : Ref sig .tc := ⟨.hbm, 825, rfl⟩
abbrev main_call1_call5_v49 : Ref sig .tc := ⟨.hbm, 826, rfl⟩
abbrev main_call1_call5_c_12 : Ref sig .tc := ⟨.hbm, 827, rfl⟩
abbrev main_call1_call5_v50 : Ref sig .tc := ⟨.hbm, 828, rfl⟩
abbrev main_call1_call5_v51 : Ref sig .tc := ⟨.hbm, 829, rfl⟩
abbrev main_call1_call5_v52 : Ref sig .tc := ⟨.hbm, 830, rfl⟩
abbrev main_call1_call5_v53 : Ref sig .tc := ⟨.hbm, 831, rfl⟩
abbrev main_call1_call5_v54 : Ref sig .tc := ⟨.hbm, 832, rfl⟩
abbrev main_call1_call5_c_13 : Ref sig .tc := ⟨.hbm, 833, rfl⟩
abbrev main_call1_call5_v55 : Ref sig .tc := ⟨.hbm, 834, rfl⟩
abbrev main_call1_call5_v56 : Ref sig .tc := ⟨.hbm, 835, rfl⟩
abbrev main_call1_call5_c_14 : Ref sig .tc := ⟨.hbm, 836, rfl⟩
abbrev main_call1_call5_v57 : Ref sig .tc := ⟨.hbm, 837, rfl⟩
abbrev main_call1_call5_v58 : Ref sig .tc := ⟨.hbm, 838, rfl⟩
abbrev main_call1_call5_v59 : Ref sig .tc := ⟨.hbm, 839, rfl⟩
abbrev main_call1_call5_v60 : Ref sig .tc := ⟨.hbm, 840, rfl⟩
abbrev main_call1_call5_v61 : Ref sig .tc := ⟨.hbm, 841, rfl⟩
abbrev main_call1_call5_c_15 : Ref sig .tc := ⟨.hbm, 842, rfl⟩
abbrev main_call1_call5_v62 : Ref sig .tc := ⟨.hbm, 843, rfl⟩
abbrev main_call1_call5_v63 : Ref sig .tc := ⟨.hbm, 844, rfl⟩
abbrev main_call1_call5_c_16 : Ref sig .tc := ⟨.hbm, 845, rfl⟩
abbrev main_call1_call5_v64 : Ref sig .tc := ⟨.hbm, 846, rfl⟩
abbrev main_call1_call5_v65 : Ref sig .tc := ⟨.hbm, 847, rfl⟩
abbrev main_call1_call5_v66 : Ref sig .tc := ⟨.hbm, 848, rfl⟩
abbrev main_call1_call5_v67 : Ref sig .tc := ⟨.hbm, 849, rfl⟩
abbrev main_call1_call5_v68 : Ref sig .tc := ⟨.hbm, 850, rfl⟩
abbrev main_call1_call5_v69 : Ref sig .tc := ⟨.hbm, 851, rfl⟩
abbrev main_call1_call5_v70 : Ref sig .tc := ⟨.hbm, 852, rfl⟩
abbrev main_call1_call5_v71 : Ref sig .tc := ⟨.hbm, 853, rfl⟩
abbrev main_call1_call5_c_17 : Ref sig .tc := ⟨.hbm, 854, rfl⟩
abbrev main_call1_call5_v72 : Ref sig .tc := ⟨.hbm, 855, rfl⟩
abbrev main_call1_call5_v73 : Ref sig .tc := ⟨.hbm, 856, rfl⟩
abbrev main_call1_call5_v74 : Ref sig .tc := ⟨.hbm, 857, rfl⟩
abbrev main_call1_call5_c_18 : Ref sig .tc := ⟨.hbm, 858, rfl⟩
abbrev main_call1_call5_v75 : Ref sig .tc := ⟨.hbm, 859, rfl⟩
abbrev main_call1_call5_v76 : Ref sig .tc := ⟨.hbm, 860, rfl⟩
abbrev main_call1_call5_c_19 : Ref sig .tc := ⟨.hbm, 861, rfl⟩
abbrev main_call1_call5_v77 : Ref sig .tc := ⟨.hbm, 862, rfl⟩
abbrev main_call1_call5_v78 : Ref sig .tc := ⟨.hbm, 863, rfl⟩
abbrev main_call1_call5_v79 : Ref sig .tc := ⟨.hbm, 864, rfl⟩
abbrev main_call1_call5_v80 : Ref sig .tc := ⟨.hbm, 865, rfl⟩
abbrev main_call1_call5_v81 : Ref sig .tc := ⟨.hbm, 866, rfl⟩
abbrev main_call1_call5_c_20 : Ref sig .tc := ⟨.hbm, 867, rfl⟩
abbrev main_call1_call5_v82 : Ref sig .tc := ⟨.hbm, 868, rfl⟩
abbrev main_call1_call5_v83 : Ref sig .tc := ⟨.hbm, 869, rfl⟩
abbrev main_call1_call5_c_21 : Ref sig .tc := ⟨.hbm, 870, rfl⟩
abbrev main_call1_call5_v84 : Ref sig .tc := ⟨.hbm, 871, rfl⟩
abbrev main_call1_call5_v85 : Ref sig .tc := ⟨.hbm, 872, rfl⟩
abbrev main_call1_call5_v86 : Ref sig .tc := ⟨.hbm, 873, rfl⟩
abbrev main_call1_call5_v87 : Ref sig .tc := ⟨.hbm, 874, rfl⟩
abbrev main_call1_call5_v88 : Ref sig .tc := ⟨.hbm, 875, rfl⟩
abbrev main_call1_call5_c_22 : Ref sig .tc := ⟨.hbm, 876, rfl⟩
abbrev main_call1_call5_v89 : Ref sig .tc := ⟨.hbm, 877, rfl⟩
abbrev main_call1_call5_v90 : Ref sig .tc := ⟨.hbm, 878, rfl⟩
abbrev main_call1_call5_c_23 : Ref sig .tc := ⟨.hbm, 879, rfl⟩
abbrev main_call1_call5_v91 : Ref sig .tc := ⟨.hbm, 880, rfl⟩
abbrev main_call1_call5_v92 : Ref sig .tc := ⟨.hbm, 881, rfl⟩
abbrev main_call1_call5_v93 : Ref sig .tc := ⟨.hbm, 882, rfl⟩
abbrev main_call1_call5_v94 : Ref sig .tc := ⟨.hbm, 883, rfl⟩
abbrev main_call1_call5_v95 : Ref sig .tc := ⟨.hbm, 884, rfl⟩
abbrev main_call1_call5_c_24 : Ref sig .tc := ⟨.hbm, 885, rfl⟩
abbrev main_call1_call5_v96 : Ref sig .tc := ⟨.hbm, 886, rfl⟩
abbrev main_call1_call5_v97 : Ref sig .tc := ⟨.hbm, 887, rfl⟩
abbrev main_call1_call5_c_25 : Ref sig .tc := ⟨.hbm, 888, rfl⟩
abbrev main_call1_call5_v98 : Ref sig .tc := ⟨.hbm, 889, rfl⟩
abbrev main_call1_call5_v99 : Ref sig .tc := ⟨.hbm, 890, rfl⟩
abbrev main_call1_call5_v100 : Ref sig .tc := ⟨.hbm, 891, rfl⟩
abbrev main_call1_call5_v101 : Ref sig .tc := ⟨.hbm, 892, rfl⟩
abbrev main_call1_call5_v102 : Ref sig .tc := ⟨.hbm, 893, rfl⟩
abbrev main_call1_call5_v103 : Ref sig .tc := ⟨.hbm, 894, rfl⟩
abbrev main_call1_call5_v104 : Ref sig .tc := ⟨.hbm, 895, rfl⟩
abbrev main_call1_call5_v105 : Ref sig .tc := ⟨.hbm, 896, rfl⟩
abbrev main_call1_call5_c_26 : Ref sig .tc := ⟨.hbm, 897, rfl⟩
abbrev main_call1_call5_v106 : Ref sig .tc := ⟨.hbm, 898, rfl⟩
abbrev main_call1_call5_v107 : Ref sig .tc := ⟨.hbm, 899, rfl⟩
abbrev main_call1_call5_v108 : Ref sig .tc := ⟨.hbm, 900, rfl⟩
abbrev main_call1_call5_c_27 : Ref sig .tc := ⟨.hbm, 901, rfl⟩
abbrev main_call1_call5_v109 : Ref sig .tc := ⟨.hbm, 902, rfl⟩
abbrev main_call1_call5_v110 : Ref sig .tc := ⟨.hbm, 903, rfl⟩
abbrev main_call1_call5_c_28 : Ref sig .tc := ⟨.hbm, 904, rfl⟩
abbrev main_call1_call5_v111 : Ref sig .tc := ⟨.hbm, 905, rfl⟩
abbrev main_call1_call5_v112 : Ref sig .tc := ⟨.hbm, 906, rfl⟩
abbrev main_call1_call5_v113 : Ref sig .tc := ⟨.hbm, 907, rfl⟩
abbrev main_call1_call5_v114 : Ref sig .tc := ⟨.hbm, 908, rfl⟩
abbrev main_call1_call5_v115 : Ref sig .tc := ⟨.hbm, 909, rfl⟩
abbrev main_call1_call5_c_29 : Ref sig .tc := ⟨.hbm, 910, rfl⟩
abbrev main_call1_call5_v116 : Ref sig .tc := ⟨.hbm, 911, rfl⟩
abbrev main_call1_call5_v117 : Ref sig .tc := ⟨.hbm, 912, rfl⟩
abbrev main_call1_call5_c_30 : Ref sig .tc := ⟨.hbm, 913, rfl⟩
abbrev main_call1_call5_v118 : Ref sig .tc := ⟨.hbm, 914, rfl⟩
abbrev main_call1_call5_v119 : Ref sig .tc := ⟨.hbm, 915, rfl⟩
abbrev main_call1_call5_v120 : Ref sig .tc := ⟨.hbm, 916, rfl⟩
abbrev main_call1_call5_v121 : Ref sig .tc := ⟨.hbm, 917, rfl⟩
abbrev main_call1_call5_v122 : Ref sig .tc := ⟨.hbm, 918, rfl⟩
abbrev main_call1_call5_c_31 : Ref sig .tc := ⟨.hbm, 919, rfl⟩
abbrev main_call1_call5_v123 : Ref sig .tc := ⟨.hbm, 920, rfl⟩
abbrev main_call1_call5_v124 : Ref sig .tc := ⟨.hbm, 921, rfl⟩
abbrev main_call1_call5_c_32 : Ref sig .tc := ⟨.hbm, 922, rfl⟩
abbrev main_call1_call5_v125 : Ref sig .tc := ⟨.hbm, 923, rfl⟩
abbrev main_call1_call5_v126 : Ref sig .tc := ⟨.hbm, 924, rfl⟩
abbrev main_call1_call5_v127 : Ref sig .tc := ⟨.hbm, 925, rfl⟩
abbrev main_call1_call5_v128 : Ref sig .tc := ⟨.hbm, 926, rfl⟩
abbrev main_call1_call5_v129 : Ref sig .tc := ⟨.hbm, 927, rfl⟩
abbrev main_call1_call5_c_33 : Ref sig .tc := ⟨.hbm, 928, rfl⟩
abbrev main_call1_call5_v130 : Ref sig .tc := ⟨.hbm, 929, rfl⟩
abbrev main_call1_call5_v131 : Ref sig .tc := ⟨.hbm, 930, rfl⟩
abbrev main_call1_call5_c_34 : Ref sig .tc := ⟨.hbm, 931, rfl⟩
abbrev main_call1_call5_v132 : Ref sig .tc := ⟨.hbm, 932, rfl⟩
abbrev main_call1_call5_v133 : Ref sig .tc := ⟨.hbm, 933, rfl⟩
abbrev main_call1_call5_v134 : Ref sig .tc := ⟨.hbm, 934, rfl⟩
abbrev main_call1_call5_v135 : Ref sig .tc := ⟨.hbm, 935, rfl⟩
abbrev main_call1_call5_v136 : Ref sig .tc := ⟨.hbm, 936, rfl⟩
abbrev main_call1_call5_v137 : Ref sig .tc := ⟨.hbm, 937, rfl⟩
abbrev main_call1_call5_v138 : Ref sig .tc := ⟨.hbm, 938, rfl⟩
abbrev main_call1_call5_v139 : Ref sig .tc := ⟨.hbm, 939, rfl⟩
abbrev main_call1_call5_c_35 : Ref sig .tc := ⟨.hbm, 940, rfl⟩
abbrev main_call1_call5_v140 : Ref sig .tc := ⟨.hbm, 941, rfl⟩
abbrev main_call1_call5_v141 : Ref sig .tc := ⟨.hbm, 942, rfl⟩
abbrev main_call1_call5_v142 : Ref sig .tc := ⟨.hbm, 943, rfl⟩
abbrev main_call1_call5_c_36 : Ref sig .tc := ⟨.hbm, 944, rfl⟩
abbrev main_call1_call5_v143 : Ref sig .tc := ⟨.hbm, 945, rfl⟩
abbrev main_call1_call5_v144 : Ref sig .tc := ⟨.hbm, 946, rfl⟩
abbrev main_call1_call5_c_37 : Ref sig .tc := ⟨.hbm, 947, rfl⟩
abbrev main_call1_call5_v145 : Ref sig .tc := ⟨.hbm, 948, rfl⟩
abbrev main_call1_call5_v146 : Ref sig .tc := ⟨.hbm, 949, rfl⟩
abbrev main_call1_call5_v147 : Ref sig .tc := ⟨.hbm, 950, rfl⟩
abbrev main_call1_call5_v148 : Ref sig .tc := ⟨.hbm, 951, rfl⟩
abbrev main_call1_call5_v149 : Ref sig .tc := ⟨.hbm, 952, rfl⟩
abbrev main_call1_call5_c_38 : Ref sig .tc := ⟨.hbm, 953, rfl⟩
abbrev main_call1_call5_v150 : Ref sig .tc := ⟨.hbm, 954, rfl⟩
abbrev main_call1_call5_v151 : Ref sig .tc := ⟨.hbm, 955, rfl⟩
abbrev main_call1_call5_c_39 : Ref sig .tc := ⟨.hbm, 956, rfl⟩
abbrev main_call1_call5_v152 : Ref sig .tc := ⟨.hbm, 957, rfl⟩
abbrev main_call1_call5_v153 : Ref sig .tc := ⟨.hbm, 958, rfl⟩
abbrev main_call1_call5_v154 : Ref sig .tc := ⟨.hbm, 959, rfl⟩
abbrev main_call1_call5_v155 : Ref sig .tc := ⟨.hbm, 960, rfl⟩
abbrev main_call1_call5_v156 : Ref sig .tc := ⟨.hbm, 961, rfl⟩
abbrev main_call1_call5_c_40 : Ref sig .tc := ⟨.hbm, 962, rfl⟩
abbrev main_call1_call5_v157 : Ref sig .tc := ⟨.hbm, 963, rfl⟩
abbrev main_call1_call5_v158 : Ref sig .tc := ⟨.hbm, 964, rfl⟩
abbrev main_call1_call5_c_41 : Ref sig .tc := ⟨.hbm, 965, rfl⟩
abbrev main_call1_call5_v159 : Ref sig .tc := ⟨.hbm, 966, rfl⟩
abbrev main_call1_call5_v160 : Ref sig .tc := ⟨.hbm, 967, rfl⟩
abbrev main_call1_call5_v161 : Ref sig .tc := ⟨.hbm, 968, rfl⟩
abbrev main_call1_call5_v162 : Ref sig .tc := ⟨.hbm, 969, rfl⟩
abbrev main_call1_call5_v163 : Ref sig .tc := ⟨.hbm, 970, rfl⟩
abbrev main_call1_call5_c_42 : Ref sig .tc := ⟨.hbm, 971, rfl⟩
abbrev main_call1_call5_v164 : Ref sig .tc := ⟨.hbm, 972, rfl⟩
abbrev main_call1_call5_v165 : Ref sig .tc := ⟨.hbm, 973, rfl⟩
abbrev main_call1_call5_c_43 : Ref sig .tc := ⟨.hbm, 974, rfl⟩
abbrev main_call1_call5_v166 : Ref sig .tc := ⟨.hbm, 975, rfl⟩
abbrev main_call1_call5_v167 : Ref sig .tc := ⟨.hbm, 976, rfl⟩
abbrev main_call1_call5_v168 : Ref sig .tc := ⟨.hbm, 977, rfl⟩
abbrev main_call1_call5_v169 : Ref sig .tc := ⟨.hbm, 978, rfl⟩
abbrev main_call1_call5_v170 : Ref sig .tc := ⟨.hbm, 979, rfl⟩
abbrev main_call1_v37_0 : Ref sig .tc := ⟨.hbm, 980, rfl⟩
abbrev main_call1_call5_v172 : Ref sig .tc := ⟨.hbm, 981, rfl⟩
abbrev main_call1_call5_v173 : Ref sig .tc := ⟨.hbm, 982, rfl⟩
abbrev main_call1_call5_c_44 : Ref sig .tc := ⟨.hbm, 983, rfl⟩
abbrev main_call1_call5_v174 : Ref sig .tc := ⟨.hbm, 984, rfl⟩
abbrev main_call1_v37_1 : Ref sig .tc := ⟨.hbm, 985, rfl⟩
abbrev main_call1_v38 : Ref sig .tc := ⟨.hbm, 986, rfl⟩
abbrev main_call1_v39 : Ref sig .tc := ⟨.hbm, 987, rfl⟩
abbrev main_call1_v40 : Ref sig .tc := ⟨.hbm, 988, rfl⟩
abbrev main_call1_v41 : Ref sig .tc := ⟨.hbm, 989, rfl⟩
abbrev main_call1_c_10 : Ref sig .tc := ⟨.hbm, 990, rfl⟩
abbrev main_call1_v42 : Ref sig .tc := ⟨.hbm, 991, rfl⟩
abbrev main_call1_v43 : Ref sig .tc := ⟨.hbm, 992, rfl⟩
abbrev main_call1_v44 : Ref sig .tc := ⟨.hbm, 993, rfl⟩
abbrev main_call1_v45 : Ref sig .tc := ⟨.hbm, 994, rfl⟩
abbrev main_call1_v46 : Ref sig .tc := ⟨.hbm, 995, rfl⟩
abbrev main_call1_c_11 : Ref sig .tc := ⟨.hbm, 996, rfl⟩
abbrev main_call1_v47 : Ref sig .tc := ⟨.hbm, 997, rfl⟩
abbrev main_call1_v48 : Ref sig .tc := ⟨.hbm, 998, rfl⟩
abbrev main_call1_v49 : Ref sig .tc := ⟨.hbm, 999, rfl⟩
abbrev main_call1_c_12 : Ref sig .tc := ⟨.hbm, 1000, rfl⟩
abbrev main_call1_v50 : Ref sig .tc := ⟨.hbm, 1001, rfl⟩
abbrev main_call1_v51 : Ref sig .tc := ⟨.hbm, 1002, rfl⟩
abbrev main_call1_v52 : Ref sig .tc := ⟨.hbm, 1003, rfl⟩
abbrev main_call1_v53 : Ref sig .tc := ⟨.hbm, 1004, rfl⟩
abbrev main_call1_v54 : Ref sig .tc := ⟨.hbm, 1005, rfl⟩
abbrev main_call1_v55 : Ref sig .tc := ⟨.hbm, 1006, rfl⟩
abbrev main_call1_v56 : Ref sig .tc := ⟨.hbm, 1007, rfl⟩
abbrev main_call1_v57 : Ref sig .tc := ⟨.hbm, 1008, rfl⟩
abbrev main_call1_v58 : Ref sig .tc := ⟨.hbm, 1009, rfl⟩
abbrev main_call1_v59 : Ref sig .tc := ⟨.hbm, 1010, rfl⟩
abbrev main_call1_v60 : Ref sig .tc := ⟨.hbm, 1011, rfl⟩
abbrev main_call1_v61 : Ref sig .tc := ⟨.hbm, 1012, rfl⟩
abbrev main_call1_v62 : Ref sig .tc := ⟨.hbm, 1013, rfl⟩
abbrev main_call1_v63 : Ref sig .tc := ⟨.hbm, 1014, rfl⟩
abbrev main_call1_v64 : Ref sig .tc := ⟨.hbm, 1015, rfl⟩
abbrev main_v12 : Ref sig .tc := ⟨.hbm, 1016, rfl⟩
abbrev main_c_4 : Ref sig .tc := ⟨.hbm, 1017, rfl⟩
abbrev main_v13 : Ref sig .tc := ⟨.hbm, 1018, rfl⟩
abbrev main_v14 : Ref sig .tc := ⟨.hbm, 1019, rfl⟩
abbrev main_c_5 : Ref sig .tc := ⟨.hbm, 1020, rfl⟩
abbrev main_call2_c : Ref sig .tc := ⟨.hbm, 1021, rfl⟩
abbrev main_call2_c_0 : Ref sig .tc := ⟨.hbm, 1022, rfl⟩
abbrev main_call2_c_1 : Ref sig .tc := ⟨.hbm, 1023, rfl⟩
abbrev main_call2_call0_v0 : Ref sig .tc := ⟨.hbm, 1024, rfl⟩
abbrev main_call2_v0 : Ref sig .tc := ⟨.hbm, 1025, rfl⟩
abbrev main_call2_v1 : Ref sig .tc := ⟨.hbm, 1026, rfl⟩
abbrev main_call2_v2 : Ref sig .tc := ⟨.hbm, 1027, rfl⟩
abbrev main_call2_c_2 : Ref sig .tc := ⟨.hbm, 1028, rfl⟩
abbrev main_call2_c_3 : Ref sig .tc := ⟨.hbm, 1029, rfl⟩
abbrev main_call2_call1_v0 : Ref sig .tc := ⟨.hbm, 1030, rfl⟩
abbrev main_call2_v3 : Ref sig .tc := ⟨.hbm, 1031, rfl⟩
abbrev main_call2_v4 : Ref sig .tc := ⟨.hbm, 1032, rfl⟩
abbrev main_call2_c_4 : Ref sig .tc := ⟨.hbm, 1033, rfl⟩
abbrev main_call2_c_5 : Ref sig .tc := ⟨.hbm, 1034, rfl⟩
abbrev main_call2_call2_v0 : Ref sig .tc := ⟨.hbm, 1035, rfl⟩
abbrev main_call2_call2_v1 : Ref sig .tc := ⟨.hbm, 1036, rfl⟩
abbrev main_call2_call2_v2 : Ref sig .tc := ⟨.hbm, 1037, rfl⟩
abbrev main_call2_v5 : Ref sig .tc := ⟨.hbm, 1038, rfl⟩
abbrev main_call2_v6 : Ref sig .tc := ⟨.hbm, 1039, rfl⟩
abbrev main_call2_call3_v0 : Ref sig .tc := ⟨.hbm, 1040, rfl⟩
abbrev main_call2_call3_v1 : Ref sig .tc := ⟨.hbm, 1041, rfl⟩
abbrev main_call2_call3_v2 : Ref sig .tc := ⟨.hbm, 1042, rfl⟩
abbrev main_call2_call3_v3 : Ref sig .tc := ⟨.hbm, 1043, rfl⟩
abbrev main_call2_call3_v4 : Ref sig .tc := ⟨.hbm, 1044, rfl⟩
abbrev main_call2_call3_c : Ref sig .tc := ⟨.hbm, 1045, rfl⟩
abbrev main_call2_call3_v5 : Ref sig .tc := ⟨.hbm, 1046, rfl⟩
abbrev main_call2_call3_v6 : Ref sig .tc := ⟨.hbm, 1047, rfl⟩
abbrev main_call2_call3_c_0 : Ref sig .tc := ⟨.hbm, 1048, rfl⟩
abbrev main_call2_call3_v7 : Ref sig .tc := ⟨.hbm, 1049, rfl⟩
abbrev main_call2_call3_v8 : Ref sig .tc := ⟨.hbm, 1050, rfl⟩
abbrev main_call2_call3_v9 : Ref sig .tc := ⟨.hbm, 1051, rfl⟩
abbrev main_call2_call3_v10 : Ref sig .tc := ⟨.hbm, 1052, rfl⟩
abbrev main_call2_call3_call0_v0 : Ref sig .tc := ⟨.hbm, 1053, rfl⟩
abbrev main_call2_call3_call0_c : Ref sig .tc := ⟨.hbm, 1054, rfl⟩
abbrev main_call2_call3_call0_v1 : Ref sig .tc := ⟨.hbm, 1055, rfl⟩
abbrev main_call2_call3_call0_v2 : Ref sig .tc := ⟨.hbm, 1056, rfl⟩
abbrev main_call2_call3_call0_v3 : Ref sig .tc := ⟨.hbm, 1057, rfl⟩
abbrev main_call2_call3_call0_v4 : Ref sig .tc := ⟨.hbm, 1058, rfl⟩
abbrev main_call2_call3_call0_v5 : Ref sig .tc := ⟨.hbm, 1059, rfl⟩
abbrev main_call2_call3_call0_v6 : Ref sig .tc := ⟨.hbm, 1060, rfl⟩
abbrev main_call2_call3_call0_c_0 : Ref sig .tc := ⟨.hbm, 1061, rfl⟩
abbrev main_call2_call3_call0_v7 : Ref sig .tc := ⟨.hbm, 1062, rfl⟩
abbrev main_call2_call3_call0_v8 : Ref sig .tc := ⟨.hbm, 1063, rfl⟩
abbrev main_call2_call3_call0_c_1 : Ref sig .tc := ⟨.hbm, 1064, rfl⟩
abbrev main_call2_call3_call0_v9 : Ref sig .tc := ⟨.hbm, 1065, rfl⟩
abbrev main_call2_call3_call0_v10 : Ref sig .tc := ⟨.hbm, 1066, rfl⟩
abbrev main_call2_call3_call0_v11 : Ref sig .tc := ⟨.hbm, 1067, rfl⟩
abbrev main_call2_call3_call0_v12 : Ref sig .tc := ⟨.hbm, 1068, rfl⟩
abbrev main_call2_call3_call0_v13 : Ref sig .tc := ⟨.hbm, 1069, rfl⟩
abbrev main_call2_call3_call0_c_2 : Ref sig .tc := ⟨.hbm, 1070, rfl⟩
abbrev main_call2_call3_call0_v14 : Ref sig .tc := ⟨.hbm, 1071, rfl⟩
abbrev main_call2_call3_call0_v15 : Ref sig .tc := ⟨.hbm, 1072, rfl⟩
abbrev main_call2_call3_call0_c_3 : Ref sig .tc := ⟨.hbm, 1073, rfl⟩
abbrev main_call2_call3_call0_v16 : Ref sig .tc := ⟨.hbm, 1074, rfl⟩
abbrev main_call2_call3_call0_v17 : Ref sig .tc := ⟨.hbm, 1075, rfl⟩
abbrev main_call2_call3_call0_v18 : Ref sig .tc := ⟨.hbm, 1076, rfl⟩
abbrev main_call2_call3_call0_v19 : Ref sig .tc := ⟨.hbm, 1077, rfl⟩
abbrev main_call2_call3_call0_v20 : Ref sig .tc := ⟨.hbm, 1078, rfl⟩
abbrev main_call2_call3_call0_c_4 : Ref sig .tc := ⟨.hbm, 1079, rfl⟩
abbrev main_call2_call3_call0_v21 : Ref sig .tc := ⟨.hbm, 1080, rfl⟩
abbrev main_call2_call3_call0_v22 : Ref sig .tc := ⟨.hbm, 1081, rfl⟩
abbrev main_call2_call3_call0_c_5 : Ref sig .tc := ⟨.hbm, 1082, rfl⟩
abbrev main_call2_call3_call0_v23 : Ref sig .tc := ⟨.hbm, 1083, rfl⟩
abbrev main_call2_call3_call0_v24 : Ref sig .tc := ⟨.hbm, 1084, rfl⟩
abbrev main_call2_call3_call0_v25 : Ref sig .tc := ⟨.hbm, 1085, rfl⟩
abbrev main_call2_call3_call0_v26 : Ref sig .tc := ⟨.hbm, 1086, rfl⟩
abbrev main_call2_call3_call0_v27 : Ref sig .tc := ⟨.hbm, 1087, rfl⟩
abbrev main_call2_call3_call0_c_6 : Ref sig .tc := ⟨.hbm, 1088, rfl⟩
abbrev main_call2_call3_call0_v28 : Ref sig .tc := ⟨.hbm, 1089, rfl⟩
abbrev main_call2_call3_call0_v29 : Ref sig .tc := ⟨.hbm, 1090, rfl⟩
abbrev main_call2_call3_call0_c_7 : Ref sig .tc := ⟨.hbm, 1091, rfl⟩
abbrev main_call2_call3_call0_v30 : Ref sig .tc := ⟨.hbm, 1092, rfl⟩
abbrev main_call2_call3_call0_v31 : Ref sig .tc := ⟨.hbm, 1093, rfl⟩
abbrev main_call2_call3_call0_v32 : Ref sig .tc := ⟨.hbm, 1094, rfl⟩
abbrev main_call2_call3_call0_v33 : Ref sig .tc := ⟨.hbm, 1095, rfl⟩
abbrev main_call2_call3_call0_v34 : Ref sig .tc := ⟨.hbm, 1096, rfl⟩
abbrev main_call2_call3_call0_v35 : Ref sig .tc := ⟨.hbm, 1097, rfl⟩
abbrev main_call2_call3_call0_v36 : Ref sig .tc := ⟨.hbm, 1098, rfl⟩
abbrev main_call2_call3_call0_v37 : Ref sig .tc := ⟨.hbm, 1099, rfl⟩
abbrev main_call2_call3_call0_c_8 : Ref sig .tc := ⟨.hbm, 1100, rfl⟩
abbrev main_call2_call3_call0_v38 : Ref sig .tc := ⟨.hbm, 1101, rfl⟩
abbrev main_call2_call3_call0_v39 : Ref sig .tc := ⟨.hbm, 1102, rfl⟩
abbrev main_call2_call3_call0_v40 : Ref sig .tc := ⟨.hbm, 1103, rfl⟩
abbrev main_call2_call3_call0_c_9 : Ref sig .tc := ⟨.hbm, 1104, rfl⟩
abbrev main_call2_call3_call0_v41 : Ref sig .tc := ⟨.hbm, 1105, rfl⟩
abbrev main_call2_call3_call0_v42 : Ref sig .tc := ⟨.hbm, 1106, rfl⟩
abbrev main_call2_call3_call0_c_10 : Ref sig .tc := ⟨.hbm, 1107, rfl⟩
abbrev main_call2_call3_call0_v43 : Ref sig .tc := ⟨.hbm, 1108, rfl⟩
abbrev main_call2_call3_call0_v44 : Ref sig .tc := ⟨.hbm, 1109, rfl⟩
abbrev main_call2_call3_call0_v45 : Ref sig .tc := ⟨.hbm, 1110, rfl⟩
abbrev main_call2_call3_call0_v46 : Ref sig .tc := ⟨.hbm, 1111, rfl⟩
abbrev main_call2_call3_call0_v47 : Ref sig .tc := ⟨.hbm, 1112, rfl⟩
abbrev main_call2_call3_call0_c_11 : Ref sig .tc := ⟨.hbm, 1113, rfl⟩
abbrev main_call2_call3_call0_v48 : Ref sig .tc := ⟨.hbm, 1114, rfl⟩
abbrev main_call2_call3_call0_v49 : Ref sig .tc := ⟨.hbm, 1115, rfl⟩
abbrev main_call2_call3_call0_c_12 : Ref sig .tc := ⟨.hbm, 1116, rfl⟩
abbrev main_call2_call3_call0_v50 : Ref sig .tc := ⟨.hbm, 1117, rfl⟩
abbrev main_call2_call3_call0_v51 : Ref sig .tc := ⟨.hbm, 1118, rfl⟩
abbrev main_call2_call3_call0_v52 : Ref sig .tc := ⟨.hbm, 1119, rfl⟩
abbrev main_call2_call3_call0_v53 : Ref sig .tc := ⟨.hbm, 1120, rfl⟩
abbrev main_call2_call3_call0_v54 : Ref sig .tc := ⟨.hbm, 1121, rfl⟩
abbrev main_call2_call3_call0_c_13 : Ref sig .tc := ⟨.hbm, 1122, rfl⟩
abbrev main_call2_call3_call0_v55 : Ref sig .tc := ⟨.hbm, 1123, rfl⟩
abbrev main_call2_call3_call0_v56 : Ref sig .tc := ⟨.hbm, 1124, rfl⟩
abbrev main_call2_call3_call0_c_14 : Ref sig .tc := ⟨.hbm, 1125, rfl⟩
abbrev main_call2_call3_call0_v57 : Ref sig .tc := ⟨.hbm, 1126, rfl⟩
abbrev main_call2_call3_call0_v58 : Ref sig .tc := ⟨.hbm, 1127, rfl⟩
abbrev main_call2_call3_call0_v59 : Ref sig .tc := ⟨.hbm, 1128, rfl⟩
abbrev main_call2_call3_call0_v60 : Ref sig .tc := ⟨.hbm, 1129, rfl⟩
abbrev main_call2_call3_call0_v61 : Ref sig .tc := ⟨.hbm, 1130, rfl⟩
abbrev main_call2_call3_call0_c_15 : Ref sig .tc := ⟨.hbm, 1131, rfl⟩
abbrev main_call2_call3_call0_v62 : Ref sig .tc := ⟨.hbm, 1132, rfl⟩
abbrev main_call2_call3_call0_v63 : Ref sig .tc := ⟨.hbm, 1133, rfl⟩
abbrev main_call2_call3_call0_c_16 : Ref sig .tc := ⟨.hbm, 1134, rfl⟩
abbrev main_call2_call3_call0_v64 : Ref sig .tc := ⟨.hbm, 1135, rfl⟩
abbrev main_call2_call3_call0_v65 : Ref sig .tc := ⟨.hbm, 1136, rfl⟩
abbrev main_call2_call3_call0_v66 : Ref sig .tc := ⟨.hbm, 1137, rfl⟩
abbrev main_call2_call3_call0_v67 : Ref sig .tc := ⟨.hbm, 1138, rfl⟩
abbrev main_call2_call3_call0_v68 : Ref sig .tc := ⟨.hbm, 1139, rfl⟩
abbrev main_call2_call3_call0_v69 : Ref sig .tc := ⟨.hbm, 1140, rfl⟩
abbrev main_call2_call3_call0_v70 : Ref sig .tc := ⟨.hbm, 1141, rfl⟩
abbrev main_call2_call3_call0_v71 : Ref sig .tc := ⟨.hbm, 1142, rfl⟩
abbrev main_call2_call3_call0_c_17 : Ref sig .tc := ⟨.hbm, 1143, rfl⟩
abbrev main_call2_call3_call0_v72 : Ref sig .tc := ⟨.hbm, 1144, rfl⟩
abbrev main_call2_call3_call0_v73 : Ref sig .tc := ⟨.hbm, 1145, rfl⟩
abbrev main_call2_call3_call0_v74 : Ref sig .tc := ⟨.hbm, 1146, rfl⟩
abbrev main_call2_call3_call0_c_18 : Ref sig .tc := ⟨.hbm, 1147, rfl⟩
abbrev main_call2_call3_call0_v75 : Ref sig .tc := ⟨.hbm, 1148, rfl⟩
abbrev main_call2_call3_call0_v76 : Ref sig .tc := ⟨.hbm, 1149, rfl⟩
abbrev main_call2_call3_call0_c_19 : Ref sig .tc := ⟨.hbm, 1150, rfl⟩
abbrev main_call2_call3_call0_v77 : Ref sig .tc := ⟨.hbm, 1151, rfl⟩
abbrev main_call2_call3_call0_v78 : Ref sig .tc := ⟨.hbm, 1152, rfl⟩
abbrev main_call2_call3_call0_v79 : Ref sig .tc := ⟨.hbm, 1153, rfl⟩
abbrev main_call2_call3_call0_v80 : Ref sig .tc := ⟨.hbm, 1154, rfl⟩
abbrev main_call2_call3_call0_v81 : Ref sig .tc := ⟨.hbm, 1155, rfl⟩
abbrev main_call2_call3_call0_c_20 : Ref sig .tc := ⟨.hbm, 1156, rfl⟩
abbrev main_call2_call3_call0_v82 : Ref sig .tc := ⟨.hbm, 1157, rfl⟩
abbrev main_call2_call3_call0_v83 : Ref sig .tc := ⟨.hbm, 1158, rfl⟩
abbrev main_call2_call3_call0_c_21 : Ref sig .tc := ⟨.hbm, 1159, rfl⟩
abbrev main_call2_call3_call0_v84 : Ref sig .tc := ⟨.hbm, 1160, rfl⟩
abbrev main_call2_call3_call0_v85 : Ref sig .tc := ⟨.hbm, 1161, rfl⟩
abbrev main_call2_call3_call0_v86 : Ref sig .tc := ⟨.hbm, 1162, rfl⟩
abbrev main_call2_call3_call0_v87 : Ref sig .tc := ⟨.hbm, 1163, rfl⟩
abbrev main_call2_call3_call0_v88 : Ref sig .tc := ⟨.hbm, 1164, rfl⟩
abbrev main_call2_call3_call0_c_22 : Ref sig .tc := ⟨.hbm, 1165, rfl⟩
abbrev main_call2_call3_call0_v89 : Ref sig .tc := ⟨.hbm, 1166, rfl⟩
abbrev main_call2_call3_call0_v90 : Ref sig .tc := ⟨.hbm, 1167, rfl⟩
abbrev main_call2_call3_call0_c_23 : Ref sig .tc := ⟨.hbm, 1168, rfl⟩
abbrev main_call2_call3_call0_v91 : Ref sig .tc := ⟨.hbm, 1169, rfl⟩
abbrev main_call2_call3_call0_v92 : Ref sig .tc := ⟨.hbm, 1170, rfl⟩
abbrev main_call2_call3_call0_v93 : Ref sig .tc := ⟨.hbm, 1171, rfl⟩
abbrev main_call2_call3_call0_v94 : Ref sig .tc := ⟨.hbm, 1172, rfl⟩
abbrev main_call2_call3_call0_v95 : Ref sig .tc := ⟨.hbm, 1173, rfl⟩
abbrev main_call2_call3_call0_c_24 : Ref sig .tc := ⟨.hbm, 1174, rfl⟩
abbrev main_call2_call3_call0_v96 : Ref sig .tc := ⟨.hbm, 1175, rfl⟩
abbrev main_call2_call3_call0_v97 : Ref sig .tc := ⟨.hbm, 1176, rfl⟩
abbrev main_call2_call3_call0_c_25 : Ref sig .tc := ⟨.hbm, 1177, rfl⟩
abbrev main_call2_call3_call0_v98 : Ref sig .tc := ⟨.hbm, 1178, rfl⟩
abbrev main_call2_call3_call0_v99 : Ref sig .tc := ⟨.hbm, 1179, rfl⟩
abbrev main_call2_call3_call0_v100 : Ref sig .tc := ⟨.hbm, 1180, rfl⟩
abbrev main_call2_call3_call0_v101 : Ref sig .tc := ⟨.hbm, 1181, rfl⟩
abbrev main_call2_call3_call0_v102 : Ref sig .tc := ⟨.hbm, 1182, rfl⟩
abbrev main_call2_call3_call0_v103 : Ref sig .tc := ⟨.hbm, 1183, rfl⟩
abbrev main_call2_call3_call0_v104 : Ref sig .tc := ⟨.hbm, 1184, rfl⟩
abbrev main_call2_call3_call0_v105 : Ref sig .tc := ⟨.hbm, 1185, rfl⟩
abbrev main_call2_call3_call0_c_26 : Ref sig .tc := ⟨.hbm, 1186, rfl⟩
abbrev main_call2_call3_call0_v106 : Ref sig .tc := ⟨.hbm, 1187, rfl⟩
abbrev main_call2_call3_call0_v107 : Ref sig .tc := ⟨.hbm, 1188, rfl⟩
abbrev main_call2_call3_call0_v108 : Ref sig .tc := ⟨.hbm, 1189, rfl⟩
abbrev main_call2_call3_call0_c_27 : Ref sig .tc := ⟨.hbm, 1190, rfl⟩
abbrev main_call2_call3_call0_v109 : Ref sig .tc := ⟨.hbm, 1191, rfl⟩
abbrev main_call2_call3_call0_v110 : Ref sig .tc := ⟨.hbm, 1192, rfl⟩
abbrev main_call2_call3_call0_c_28 : Ref sig .tc := ⟨.hbm, 1193, rfl⟩
abbrev main_call2_call3_call0_v111 : Ref sig .tc := ⟨.hbm, 1194, rfl⟩
abbrev main_call2_call3_call0_v112 : Ref sig .tc := ⟨.hbm, 1195, rfl⟩
abbrev main_call2_call3_call0_v113 : Ref sig .tc := ⟨.hbm, 1196, rfl⟩
abbrev main_call2_call3_call0_v114 : Ref sig .tc := ⟨.hbm, 1197, rfl⟩
abbrev main_call2_call3_call0_v115 : Ref sig .tc := ⟨.hbm, 1198, rfl⟩
abbrev main_call2_call3_call0_c_29 : Ref sig .tc := ⟨.hbm, 1199, rfl⟩
abbrev main_call2_call3_call0_v116 : Ref sig .tc := ⟨.hbm, 1200, rfl⟩
abbrev main_call2_call3_call0_v117 : Ref sig .tc := ⟨.hbm, 1201, rfl⟩
abbrev main_call2_call3_call0_c_30 : Ref sig .tc := ⟨.hbm, 1202, rfl⟩
abbrev main_call2_call3_call0_v118 : Ref sig .tc := ⟨.hbm, 1203, rfl⟩
abbrev main_call2_call3_call0_v119 : Ref sig .tc := ⟨.hbm, 1204, rfl⟩
abbrev main_call2_call3_call0_v120 : Ref sig .tc := ⟨.hbm, 1205, rfl⟩
abbrev main_call2_call3_call0_v121 : Ref sig .tc := ⟨.hbm, 1206, rfl⟩
abbrev main_call2_call3_call0_v122 : Ref sig .tc := ⟨.hbm, 1207, rfl⟩
abbrev main_call2_call3_call0_c_31 : Ref sig .tc := ⟨.hbm, 1208, rfl⟩
abbrev main_call2_call3_call0_v123 : Ref sig .tc := ⟨.hbm, 1209, rfl⟩
abbrev main_call2_call3_call0_v124 : Ref sig .tc := ⟨.hbm, 1210, rfl⟩
abbrev main_call2_call3_call0_c_32 : Ref sig .tc := ⟨.hbm, 1211, rfl⟩
abbrev main_call2_call3_call0_v125 : Ref sig .tc := ⟨.hbm, 1212, rfl⟩
abbrev main_call2_call3_call0_v126 : Ref sig .tc := ⟨.hbm, 1213, rfl⟩
abbrev main_call2_call3_call0_v127 : Ref sig .tc := ⟨.hbm, 1214, rfl⟩
abbrev main_call2_call3_call0_v128 : Ref sig .tc := ⟨.hbm, 1215, rfl⟩
abbrev main_call2_call3_call0_v129 : Ref sig .tc := ⟨.hbm, 1216, rfl⟩
abbrev main_call2_call3_call0_c_33 : Ref sig .tc := ⟨.hbm, 1217, rfl⟩
abbrev main_call2_call3_call0_v130 : Ref sig .tc := ⟨.hbm, 1218, rfl⟩
abbrev main_call2_call3_call0_v131 : Ref sig .tc := ⟨.hbm, 1219, rfl⟩
abbrev main_call2_call3_call0_c_34 : Ref sig .tc := ⟨.hbm, 1220, rfl⟩
abbrev main_call2_call3_call0_v132 : Ref sig .tc := ⟨.hbm, 1221, rfl⟩
abbrev main_call2_call3_call0_v133 : Ref sig .tc := ⟨.hbm, 1222, rfl⟩
abbrev main_call2_call3_call0_v134 : Ref sig .tc := ⟨.hbm, 1223, rfl⟩
abbrev main_call2_call3_call0_v135 : Ref sig .tc := ⟨.hbm, 1224, rfl⟩
abbrev main_call2_call3_call0_v136 : Ref sig .tc := ⟨.hbm, 1225, rfl⟩
abbrev main_call2_call3_call0_v137 : Ref sig .tc := ⟨.hbm, 1226, rfl⟩
abbrev main_call2_call3_call0_v138 : Ref sig .tc := ⟨.hbm, 1227, rfl⟩
abbrev main_call2_call3_call0_v139 : Ref sig .tc := ⟨.hbm, 1228, rfl⟩
abbrev main_call2_call3_call0_c_35 : Ref sig .tc := ⟨.hbm, 1229, rfl⟩
abbrev main_call2_call3_call0_v140 : Ref sig .tc := ⟨.hbm, 1230, rfl⟩
abbrev main_call2_call3_call0_v141 : Ref sig .tc := ⟨.hbm, 1231, rfl⟩
abbrev main_call2_call3_call0_v142 : Ref sig .tc := ⟨.hbm, 1232, rfl⟩
abbrev main_call2_call3_call0_c_36 : Ref sig .tc := ⟨.hbm, 1233, rfl⟩
abbrev main_call2_call3_call0_v143 : Ref sig .tc := ⟨.hbm, 1234, rfl⟩
abbrev main_call2_call3_call0_v144 : Ref sig .tc := ⟨.hbm, 1235, rfl⟩
abbrev main_call2_call3_call0_c_37 : Ref sig .tc := ⟨.hbm, 1236, rfl⟩
abbrev main_call2_call3_call0_v145 : Ref sig .tc := ⟨.hbm, 1237, rfl⟩
abbrev main_call2_call3_call0_v146 : Ref sig .tc := ⟨.hbm, 1238, rfl⟩
abbrev main_call2_call3_call0_v147 : Ref sig .tc := ⟨.hbm, 1239, rfl⟩
abbrev main_call2_call3_call0_v148 : Ref sig .tc := ⟨.hbm, 1240, rfl⟩
abbrev main_call2_call3_call0_v149 : Ref sig .tc := ⟨.hbm, 1241, rfl⟩
abbrev main_call2_call3_call0_c_38 : Ref sig .tc := ⟨.hbm, 1242, rfl⟩
abbrev main_call2_call3_call0_v150 : Ref sig .tc := ⟨.hbm, 1243, rfl⟩
abbrev main_call2_call3_call0_v151 : Ref sig .tc := ⟨.hbm, 1244, rfl⟩
abbrev main_call2_call3_call0_c_39 : Ref sig .tc := ⟨.hbm, 1245, rfl⟩
abbrev main_call2_call3_call0_v152 : Ref sig .tc := ⟨.hbm, 1246, rfl⟩
abbrev main_call2_call3_call0_v153 : Ref sig .tc := ⟨.hbm, 1247, rfl⟩
abbrev main_call2_call3_call0_v154 : Ref sig .tc := ⟨.hbm, 1248, rfl⟩
abbrev main_call2_call3_call0_v155 : Ref sig .tc := ⟨.hbm, 1249, rfl⟩
abbrev main_call2_call3_call0_v156 : Ref sig .tc := ⟨.hbm, 1250, rfl⟩
abbrev main_call2_call3_call0_c_40 : Ref sig .tc := ⟨.hbm, 1251, rfl⟩
abbrev main_call2_call3_call0_v157 : Ref sig .tc := ⟨.hbm, 1252, rfl⟩
abbrev main_call2_call3_call0_v158 : Ref sig .tc := ⟨.hbm, 1253, rfl⟩
abbrev main_call2_call3_call0_c_41 : Ref sig .tc := ⟨.hbm, 1254, rfl⟩
abbrev main_call2_call3_call0_v159 : Ref sig .tc := ⟨.hbm, 1255, rfl⟩
abbrev main_call2_call3_call0_v160 : Ref sig .tc := ⟨.hbm, 1256, rfl⟩
abbrev main_call2_call3_call0_v161 : Ref sig .tc := ⟨.hbm, 1257, rfl⟩
abbrev main_call2_call3_call0_v162 : Ref sig .tc := ⟨.hbm, 1258, rfl⟩
abbrev main_call2_call3_call0_v163 : Ref sig .tc := ⟨.hbm, 1259, rfl⟩
abbrev main_call2_call3_call0_c_42 : Ref sig .tc := ⟨.hbm, 1260, rfl⟩
abbrev main_call2_call3_call0_v164 : Ref sig .tc := ⟨.hbm, 1261, rfl⟩
abbrev main_call2_call3_call0_v165 : Ref sig .tc := ⟨.hbm, 1262, rfl⟩
abbrev main_call2_call3_call0_c_43 : Ref sig .tc := ⟨.hbm, 1263, rfl⟩
abbrev main_call2_call3_call0_v166 : Ref sig .tc := ⟨.hbm, 1264, rfl⟩
abbrev main_call2_call3_call0_v167 : Ref sig .tc := ⟨.hbm, 1265, rfl⟩
abbrev main_call2_call3_call0_v168 : Ref sig .tc := ⟨.hbm, 1266, rfl⟩
abbrev main_call2_call3_call0_v169 : Ref sig .tc := ⟨.hbm, 1267, rfl⟩
abbrev main_call2_call3_call0_v170 : Ref sig .tc := ⟨.hbm, 1268, rfl⟩
abbrev main_call2_call3_v11_0 : Ref sig .tc := ⟨.hbm, 1269, rfl⟩
abbrev main_call2_call3_call0_v172 : Ref sig .tc := ⟨.hbm, 1270, rfl⟩
abbrev main_call2_call3_call0_v173 : Ref sig .tc := ⟨.hbm, 1271, rfl⟩
abbrev main_call2_call3_call0_c_44 : Ref sig .tc := ⟨.hbm, 1272, rfl⟩
abbrev main_call2_call3_call0_v174 : Ref sig .tc := ⟨.hbm, 1273, rfl⟩
abbrev main_call2_call3_v11_1 : Ref sig .tc := ⟨.hbm, 1274, rfl⟩
abbrev main_call2_call3_v12 : Ref sig .tc := ⟨.hbm, 1275, rfl⟩
abbrev main_call2_call3_v13 : Ref sig .tc := ⟨.hbm, 1276, rfl⟩
abbrev main_call2_v7 : Ref sig .tc := ⟨.hbm, 1277, rfl⟩
abbrev main_call2_v8 : Ref sig .tc := ⟨.hbm, 1278, rfl⟩
abbrev main_call2_v9 : Ref sig .tc := ⟨.hbm, 1279, rfl⟩
abbrev main_call2_v10 : Ref sig .tc := ⟨.hbm, 1280, rfl⟩
abbrev main_call2_v11 : Ref sig .tc := ⟨.hbm, 1281, rfl⟩
abbrev main_call2_v12 : Ref sig .tc := ⟨.hbm, 1282, rfl⟩
abbrev main_call2_v13 : Ref sig .tc := ⟨.hbm, 1283, rfl⟩
abbrev main_call2_v14 : Ref sig .tc := ⟨.hbm, 1284, rfl⟩
abbrev main_call2_v15 : Ref sig .tc := ⟨.hbm, 1285, rfl⟩
abbrev main_call2_v16 : Ref sig .tc := ⟨.hbm, 1286, rfl⟩
abbrev main_call2_c_6 : Ref sig .tc := ⟨.hbm, 1287, rfl⟩
abbrev main_call2_v17 : Ref sig .tc := ⟨.hbm, 1288, rfl⟩
abbrev main_call2_v18 : Ref sig .tc := ⟨.hbm, 1289, rfl⟩
abbrev main_call2_c_7 : Ref sig .tc := ⟨.hbm, 1290, rfl⟩
abbrev main_call2_v19 : Ref sig .tc := ⟨.hbm, 1291, rfl⟩
abbrev main_call2_v20 : Ref sig .tc := ⟨.hbm, 1292, rfl⟩
abbrev main_call2_v21 : Ref sig .tc := ⟨.hbm, 1293, rfl⟩
abbrev main_call2_v22 : Ref sig .tc := ⟨.hbm, 1294, rfl⟩
abbrev main_call2_call4_v0 : Ref sig .tc := ⟨.hbm, 1295, rfl⟩
abbrev main_call2_call4_c : Ref sig .tc := ⟨.hbm, 1296, rfl⟩
abbrev main_call2_call4_v1 : Ref sig .tc := ⟨.hbm, 1297, rfl⟩
abbrev main_call2_call4_v2 : Ref sig .tc := ⟨.hbm, 1298, rfl⟩
abbrev main_call2_call4_v3 : Ref sig .tc := ⟨.hbm, 1299, rfl⟩
abbrev main_call2_call4_v4 : Ref sig .tc := ⟨.hbm, 1300, rfl⟩
abbrev main_call2_call4_v5 : Ref sig .tc := ⟨.hbm, 1301, rfl⟩
abbrev main_call2_call4_v6 : Ref sig .tc := ⟨.hbm, 1302, rfl⟩
abbrev main_call2_call4_c_0 : Ref sig .tc := ⟨.hbm, 1303, rfl⟩
abbrev main_call2_call4_v7 : Ref sig .tc := ⟨.hbm, 1304, rfl⟩
abbrev main_call2_call4_v8 : Ref sig .tc := ⟨.hbm, 1305, rfl⟩
abbrev main_call2_call4_c_1 : Ref sig .tc := ⟨.hbm, 1306, rfl⟩
abbrev main_call2_call4_v9 : Ref sig .tc := ⟨.hbm, 1307, rfl⟩
abbrev main_call2_call4_v10 : Ref sig .tc := ⟨.hbm, 1308, rfl⟩
abbrev main_call2_call4_v11 : Ref sig .tc := ⟨.hbm, 1309, rfl⟩
abbrev main_call2_call4_v12 : Ref sig .tc := ⟨.hbm, 1310, rfl⟩
abbrev main_call2_call4_v13 : Ref sig .tc := ⟨.hbm, 1311, rfl⟩
abbrev main_call2_call4_c_2 : Ref sig .tc := ⟨.hbm, 1312, rfl⟩
abbrev main_call2_call4_v14 : Ref sig .tc := ⟨.hbm, 1313, rfl⟩
abbrev main_call2_call4_v15 : Ref sig .tc := ⟨.hbm, 1314, rfl⟩
abbrev main_call2_call4_c_3 : Ref sig .tc := ⟨.hbm, 1315, rfl⟩
abbrev main_call2_call4_v16 : Ref sig .tc := ⟨.hbm, 1316, rfl⟩
abbrev main_call2_call4_v17 : Ref sig .tc := ⟨.hbm, 1317, rfl⟩
abbrev main_call2_call4_v18 : Ref sig .tc := ⟨.hbm, 1318, rfl⟩
abbrev main_call2_call4_v19 : Ref sig .tc := ⟨.hbm, 1319, rfl⟩
abbrev main_call2_call4_v20 : Ref sig .tc := ⟨.hbm, 1320, rfl⟩
abbrev main_call2_call4_c_4 : Ref sig .tc := ⟨.hbm, 1321, rfl⟩
abbrev main_call2_call4_v21 : Ref sig .tc := ⟨.hbm, 1322, rfl⟩
abbrev main_call2_call4_v22 : Ref sig .tc := ⟨.hbm, 1323, rfl⟩
abbrev main_call2_call4_c_5 : Ref sig .tc := ⟨.hbm, 1324, rfl⟩
abbrev main_call2_call4_v23 : Ref sig .tc := ⟨.hbm, 1325, rfl⟩
abbrev main_call2_call4_v24 : Ref sig .tc := ⟨.hbm, 1326, rfl⟩
abbrev main_call2_call4_v25 : Ref sig .tc := ⟨.hbm, 1327, rfl⟩
abbrev main_call2_call4_v26 : Ref sig .tc := ⟨.hbm, 1328, rfl⟩
abbrev main_call2_call4_v27 : Ref sig .tc := ⟨.hbm, 1329, rfl⟩
abbrev main_call2_call4_c_6 : Ref sig .tc := ⟨.hbm, 1330, rfl⟩
abbrev main_call2_call4_v28 : Ref sig .tc := ⟨.hbm, 1331, rfl⟩
abbrev main_call2_call4_v29 : Ref sig .tc := ⟨.hbm, 1332, rfl⟩
abbrev main_call2_call4_c_7 : Ref sig .tc := ⟨.hbm, 1333, rfl⟩
abbrev main_call2_call4_v30 : Ref sig .tc := ⟨.hbm, 1334, rfl⟩
abbrev main_call2_call4_v31 : Ref sig .tc := ⟨.hbm, 1335, rfl⟩
abbrev main_call2_call4_v32 : Ref sig .tc := ⟨.hbm, 1336, rfl⟩
abbrev main_call2_call4_v33 : Ref sig .tc := ⟨.hbm, 1337, rfl⟩
abbrev main_call2_call4_v34 : Ref sig .tc := ⟨.hbm, 1338, rfl⟩
abbrev main_call2_call4_v35 : Ref sig .tc := ⟨.hbm, 1339, rfl⟩
abbrev main_call2_call4_v36 : Ref sig .tc := ⟨.hbm, 1340, rfl⟩
abbrev main_call2_call4_v37 : Ref sig .tc := ⟨.hbm, 1341, rfl⟩
abbrev main_call2_call4_c_8 : Ref sig .tc := ⟨.hbm, 1342, rfl⟩
abbrev main_call2_call4_v38 : Ref sig .tc := ⟨.hbm, 1343, rfl⟩
abbrev main_call2_call4_v39 : Ref sig .tc := ⟨.hbm, 1344, rfl⟩
abbrev main_call2_call4_v40 : Ref sig .tc := ⟨.hbm, 1345, rfl⟩
abbrev main_call2_call4_c_9 : Ref sig .tc := ⟨.hbm, 1346, rfl⟩
abbrev main_call2_call4_v41 : Ref sig .tc := ⟨.hbm, 1347, rfl⟩
abbrev main_call2_call4_v42 : Ref sig .tc := ⟨.hbm, 1348, rfl⟩
abbrev main_call2_call4_c_10 : Ref sig .tc := ⟨.hbm, 1349, rfl⟩
abbrev main_call2_call4_v43 : Ref sig .tc := ⟨.hbm, 1350, rfl⟩
abbrev main_call2_call4_v44 : Ref sig .tc := ⟨.hbm, 1351, rfl⟩
abbrev main_call2_call4_v45 : Ref sig .tc := ⟨.hbm, 1352, rfl⟩
abbrev main_call2_call4_v46 : Ref sig .tc := ⟨.hbm, 1353, rfl⟩
abbrev main_call2_call4_v47 : Ref sig .tc := ⟨.hbm, 1354, rfl⟩
abbrev main_call2_call4_c_11 : Ref sig .tc := ⟨.hbm, 1355, rfl⟩
abbrev main_call2_call4_v48 : Ref sig .tc := ⟨.hbm, 1356, rfl⟩
abbrev main_call2_call4_v49 : Ref sig .tc := ⟨.hbm, 1357, rfl⟩
abbrev main_call2_call4_c_12 : Ref sig .tc := ⟨.hbm, 1358, rfl⟩
abbrev main_call2_call4_v50 : Ref sig .tc := ⟨.hbm, 1359, rfl⟩
abbrev main_call2_call4_v51 : Ref sig .tc := ⟨.hbm, 1360, rfl⟩
abbrev main_call2_call4_v52 : Ref sig .tc := ⟨.hbm, 1361, rfl⟩
abbrev main_call2_call4_v53 : Ref sig .tc := ⟨.hbm, 1362, rfl⟩
abbrev main_call2_call4_v54 : Ref sig .tc := ⟨.hbm, 1363, rfl⟩
abbrev main_call2_call4_c_13 : Ref sig .tc := ⟨.hbm, 1364, rfl⟩
abbrev main_call2_call4_v55 : Ref sig .tc := ⟨.hbm, 1365, rfl⟩
abbrev main_call2_call4_v56 : Ref sig .tc := ⟨.hbm, 1366, rfl⟩
abbrev main_call2_call4_c_14 : Ref sig .tc := ⟨.hbm, 1367, rfl⟩
abbrev main_call2_call4_v57 : Ref sig .tc := ⟨.hbm, 1368, rfl⟩
abbrev main_call2_call4_v58 : Ref sig .tc := ⟨.hbm, 1369, rfl⟩
abbrev main_call2_call4_v59 : Ref sig .tc := ⟨.hbm, 1370, rfl⟩
abbrev main_call2_call4_v60 : Ref sig .tc := ⟨.hbm, 1371, rfl⟩
abbrev main_call2_call4_v61 : Ref sig .tc := ⟨.hbm, 1372, rfl⟩
abbrev main_call2_call4_c_15 : Ref sig .tc := ⟨.hbm, 1373, rfl⟩
abbrev main_call2_call4_v62 : Ref sig .tc := ⟨.hbm, 1374, rfl⟩
abbrev main_call2_call4_v63 : Ref sig .tc := ⟨.hbm, 1375, rfl⟩
abbrev main_call2_call4_c_16 : Ref sig .tc := ⟨.hbm, 1376, rfl⟩
abbrev main_call2_call4_v64 : Ref sig .tc := ⟨.hbm, 1377, rfl⟩
abbrev main_call2_call4_v65 : Ref sig .tc := ⟨.hbm, 1378, rfl⟩
abbrev main_call2_call4_v66 : Ref sig .tc := ⟨.hbm, 1379, rfl⟩
abbrev main_call2_call4_v67 : Ref sig .tc := ⟨.hbm, 1380, rfl⟩
abbrev main_call2_call4_v68 : Ref sig .tc := ⟨.hbm, 1381, rfl⟩
abbrev main_call2_call4_v69 : Ref sig .tc := ⟨.hbm, 1382, rfl⟩
abbrev main_call2_call4_v70 : Ref sig .tc := ⟨.hbm, 1383, rfl⟩
abbrev main_call2_call4_v71 : Ref sig .tc := ⟨.hbm, 1384, rfl⟩
abbrev main_call2_call4_c_17 : Ref sig .tc := ⟨.hbm, 1385, rfl⟩
abbrev main_call2_call4_v72 : Ref sig .tc := ⟨.hbm, 1386, rfl⟩
abbrev main_call2_call4_v73 : Ref sig .tc := ⟨.hbm, 1387, rfl⟩
abbrev main_call2_call4_v74 : Ref sig .tc := ⟨.hbm, 1388, rfl⟩
abbrev main_call2_call4_c_18 : Ref sig .tc := ⟨.hbm, 1389, rfl⟩
abbrev main_call2_call4_v75 : Ref sig .tc := ⟨.hbm, 1390, rfl⟩
abbrev main_call2_call4_v76 : Ref sig .tc := ⟨.hbm, 1391, rfl⟩
abbrev main_call2_call4_c_19 : Ref sig .tc := ⟨.hbm, 1392, rfl⟩
abbrev main_call2_call4_v77 : Ref sig .tc := ⟨.hbm, 1393, rfl⟩
abbrev main_call2_call4_v78 : Ref sig .tc := ⟨.hbm, 1394, rfl⟩
abbrev main_call2_call4_v79 : Ref sig .tc := ⟨.hbm, 1395, rfl⟩
abbrev main_call2_call4_v80 : Ref sig .tc := ⟨.hbm, 1396, rfl⟩
abbrev main_call2_call4_v81 : Ref sig .tc := ⟨.hbm, 1397, rfl⟩
abbrev main_call2_call4_c_20 : Ref sig .tc := ⟨.hbm, 1398, rfl⟩
abbrev main_call2_call4_v82 : Ref sig .tc := ⟨.hbm, 1399, rfl⟩
abbrev main_call2_call4_v83 : Ref sig .tc := ⟨.hbm, 1400, rfl⟩
abbrev main_call2_call4_c_21 : Ref sig .tc := ⟨.hbm, 1401, rfl⟩
abbrev main_call2_call4_v84 : Ref sig .tc := ⟨.hbm, 1402, rfl⟩
abbrev main_call2_call4_v85 : Ref sig .tc := ⟨.hbm, 1403, rfl⟩
abbrev main_call2_call4_v86 : Ref sig .tc := ⟨.hbm, 1404, rfl⟩
abbrev main_call2_call4_v87 : Ref sig .tc := ⟨.hbm, 1405, rfl⟩
abbrev main_call2_call4_v88 : Ref sig .tc := ⟨.hbm, 1406, rfl⟩
abbrev main_call2_call4_c_22 : Ref sig .tc := ⟨.hbm, 1407, rfl⟩
abbrev main_call2_call4_v89 : Ref sig .tc := ⟨.hbm, 1408, rfl⟩
abbrev main_call2_call4_v90 : Ref sig .tc := ⟨.hbm, 1409, rfl⟩
abbrev main_call2_call4_c_23 : Ref sig .tc := ⟨.hbm, 1410, rfl⟩
abbrev main_call2_call4_v91 : Ref sig .tc := ⟨.hbm, 1411, rfl⟩
abbrev main_call2_call4_v92 : Ref sig .tc := ⟨.hbm, 1412, rfl⟩
abbrev main_call2_call4_v93 : Ref sig .tc := ⟨.hbm, 1413, rfl⟩
abbrev main_call2_call4_v94 : Ref sig .tc := ⟨.hbm, 1414, rfl⟩
abbrev main_call2_call4_v95 : Ref sig .tc := ⟨.hbm, 1415, rfl⟩
abbrev main_call2_call4_c_24 : Ref sig .tc := ⟨.hbm, 1416, rfl⟩
abbrev main_call2_call4_v96 : Ref sig .tc := ⟨.hbm, 1417, rfl⟩
abbrev main_call2_call4_v97 : Ref sig .tc := ⟨.hbm, 1418, rfl⟩
abbrev main_call2_call4_c_25 : Ref sig .tc := ⟨.hbm, 1419, rfl⟩
abbrev main_call2_call4_v98 : Ref sig .tc := ⟨.hbm, 1420, rfl⟩
abbrev main_call2_call4_v99 : Ref sig .tc := ⟨.hbm, 1421, rfl⟩
abbrev main_call2_call4_v100 : Ref sig .tc := ⟨.hbm, 1422, rfl⟩
abbrev main_call2_call4_v101 : Ref sig .tc := ⟨.hbm, 1423, rfl⟩
abbrev main_call2_call4_v102 : Ref sig .tc := ⟨.hbm, 1424, rfl⟩
abbrev main_call2_call4_v103 : Ref sig .tc := ⟨.hbm, 1425, rfl⟩
abbrev main_call2_call4_v104 : Ref sig .tc := ⟨.hbm, 1426, rfl⟩
abbrev main_call2_call4_v105 : Ref sig .tc := ⟨.hbm, 1427, rfl⟩
abbrev main_call2_call4_c_26 : Ref sig .tc := ⟨.hbm, 1428, rfl⟩
abbrev main_call2_call4_v106 : Ref sig .tc := ⟨.hbm, 1429, rfl⟩
abbrev main_call2_call4_v107 : Ref sig .tc := ⟨.hbm, 1430, rfl⟩
abbrev main_call2_call4_v108 : Ref sig .tc := ⟨.hbm, 1431, rfl⟩
abbrev main_call2_call4_c_27 : Ref sig .tc := ⟨.hbm, 1432, rfl⟩
abbrev main_call2_call4_v109 : Ref sig .tc := ⟨.hbm, 1433, rfl⟩
abbrev main_call2_call4_v110 : Ref sig .tc := ⟨.hbm, 1434, rfl⟩
abbrev main_call2_call4_c_28 : Ref sig .tc := ⟨.hbm, 1435, rfl⟩
abbrev main_call2_call4_v111 : Ref sig .tc := ⟨.hbm, 1436, rfl⟩
abbrev main_call2_call4_v112 : Ref sig .tc := ⟨.hbm, 1437, rfl⟩
abbrev main_call2_call4_v113 : Ref sig .tc := ⟨.hbm, 1438, rfl⟩
abbrev main_call2_call4_v114 : Ref sig .tc := ⟨.hbm, 1439, rfl⟩
abbrev main_call2_call4_v115 : Ref sig .tc := ⟨.hbm, 1440, rfl⟩
abbrev main_call2_call4_c_29 : Ref sig .tc := ⟨.hbm, 1441, rfl⟩
abbrev main_call2_call4_v116 : Ref sig .tc := ⟨.hbm, 1442, rfl⟩
abbrev main_call2_call4_v117 : Ref sig .tc := ⟨.hbm, 1443, rfl⟩
abbrev main_call2_call4_c_30 : Ref sig .tc := ⟨.hbm, 1444, rfl⟩
abbrev main_call2_call4_v118 : Ref sig .tc := ⟨.hbm, 1445, rfl⟩
abbrev main_call2_call4_v119 : Ref sig .tc := ⟨.hbm, 1446, rfl⟩
abbrev main_call2_call4_v120 : Ref sig .tc := ⟨.hbm, 1447, rfl⟩
abbrev main_call2_call4_v121 : Ref sig .tc := ⟨.hbm, 1448, rfl⟩
abbrev main_call2_call4_v122 : Ref sig .tc := ⟨.hbm, 1449, rfl⟩
abbrev main_call2_call4_c_31 : Ref sig .tc := ⟨.hbm, 1450, rfl⟩
abbrev main_call2_call4_v123 : Ref sig .tc := ⟨.hbm, 1451, rfl⟩
abbrev main_call2_call4_v124 : Ref sig .tc := ⟨.hbm, 1452, rfl⟩
abbrev main_call2_call4_c_32 : Ref sig .tc := ⟨.hbm, 1453, rfl⟩
abbrev main_call2_call4_v125 : Ref sig .tc := ⟨.hbm, 1454, rfl⟩
abbrev main_call2_call4_v126 : Ref sig .tc := ⟨.hbm, 1455, rfl⟩
abbrev main_call2_call4_v127 : Ref sig .tc := ⟨.hbm, 1456, rfl⟩
abbrev main_call2_call4_v128 : Ref sig .tc := ⟨.hbm, 1457, rfl⟩
abbrev main_call2_call4_v129 : Ref sig .tc := ⟨.hbm, 1458, rfl⟩
abbrev main_call2_call4_c_33 : Ref sig .tc := ⟨.hbm, 1459, rfl⟩
abbrev main_call2_call4_v130 : Ref sig .tc := ⟨.hbm, 1460, rfl⟩
abbrev main_call2_call4_v131 : Ref sig .tc := ⟨.hbm, 1461, rfl⟩
abbrev main_call2_call4_c_34 : Ref sig .tc := ⟨.hbm, 1462, rfl⟩
abbrev main_call2_call4_v132 : Ref sig .tc := ⟨.hbm, 1463, rfl⟩
abbrev main_call2_call4_v133 : Ref sig .tc := ⟨.hbm, 1464, rfl⟩
abbrev main_call2_call4_v134 : Ref sig .tc := ⟨.hbm, 1465, rfl⟩
abbrev main_call2_call4_v135 : Ref sig .tc := ⟨.hbm, 1466, rfl⟩
abbrev main_call2_call4_v136 : Ref sig .tc := ⟨.hbm, 1467, rfl⟩
abbrev main_call2_call4_v137 : Ref sig .tc := ⟨.hbm, 1468, rfl⟩
abbrev main_call2_call4_v138 : Ref sig .tc := ⟨.hbm, 1469, rfl⟩
abbrev main_call2_call4_v139 : Ref sig .tc := ⟨.hbm, 1470, rfl⟩
abbrev main_call2_call4_c_35 : Ref sig .tc := ⟨.hbm, 1471, rfl⟩
abbrev main_call2_call4_v140 : Ref sig .tc := ⟨.hbm, 1472, rfl⟩
abbrev main_call2_call4_v141 : Ref sig .tc := ⟨.hbm, 1473, rfl⟩
abbrev main_call2_call4_v142 : Ref sig .tc := ⟨.hbm, 1474, rfl⟩
abbrev main_call2_call4_c_36 : Ref sig .tc := ⟨.hbm, 1475, rfl⟩
abbrev main_call2_call4_v143 : Ref sig .tc := ⟨.hbm, 1476, rfl⟩
abbrev main_call2_call4_v144 : Ref sig .tc := ⟨.hbm, 1477, rfl⟩
abbrev main_call2_call4_c_37 : Ref sig .tc := ⟨.hbm, 1478, rfl⟩
abbrev main_call2_call4_v145 : Ref sig .tc := ⟨.hbm, 1479, rfl⟩
abbrev main_call2_call4_v146 : Ref sig .tc := ⟨.hbm, 1480, rfl⟩
abbrev main_call2_call4_v147 : Ref sig .tc := ⟨.hbm, 1481, rfl⟩
abbrev main_call2_call4_v148 : Ref sig .tc := ⟨.hbm, 1482, rfl⟩
abbrev main_call2_call4_v149 : Ref sig .tc := ⟨.hbm, 1483, rfl⟩
abbrev main_call2_call4_c_38 : Ref sig .tc := ⟨.hbm, 1484, rfl⟩
abbrev main_call2_call4_v150 : Ref sig .tc := ⟨.hbm, 1485, rfl⟩
abbrev main_call2_call4_v151 : Ref sig .tc := ⟨.hbm, 1486, rfl⟩
abbrev main_call2_call4_c_39 : Ref sig .tc := ⟨.hbm, 1487, rfl⟩
abbrev main_call2_call4_v152 : Ref sig .tc := ⟨.hbm, 1488, rfl⟩
abbrev main_call2_call4_v153 : Ref sig .tc := ⟨.hbm, 1489, rfl⟩
abbrev main_call2_call4_v154 : Ref sig .tc := ⟨.hbm, 1490, rfl⟩
abbrev main_call2_call4_v155 : Ref sig .tc := ⟨.hbm, 1491, rfl⟩
abbrev main_call2_call4_v156 : Ref sig .tc := ⟨.hbm, 1492, rfl⟩
abbrev main_call2_call4_c_40 : Ref sig .tc := ⟨.hbm, 1493, rfl⟩
abbrev main_call2_call4_v157 : Ref sig .tc := ⟨.hbm, 1494, rfl⟩
abbrev main_call2_call4_v158 : Ref sig .tc := ⟨.hbm, 1495, rfl⟩
abbrev main_call2_call4_c_41 : Ref sig .tc := ⟨.hbm, 1496, rfl⟩
abbrev main_call2_call4_v159 : Ref sig .tc := ⟨.hbm, 1497, rfl⟩
abbrev main_call2_call4_v160 : Ref sig .tc := ⟨.hbm, 1498, rfl⟩
abbrev main_call2_call4_v161 : Ref sig .tc := ⟨.hbm, 1499, rfl⟩
abbrev main_call2_call4_v162 : Ref sig .tc := ⟨.hbm, 1500, rfl⟩
abbrev main_call2_call4_v163 : Ref sig .tc := ⟨.hbm, 1501, rfl⟩
abbrev main_call2_call4_c_42 : Ref sig .tc := ⟨.hbm, 1502, rfl⟩
abbrev main_call2_call4_v164 : Ref sig .tc := ⟨.hbm, 1503, rfl⟩
abbrev main_call2_call4_v165 : Ref sig .tc := ⟨.hbm, 1504, rfl⟩
abbrev main_call2_call4_c_43 : Ref sig .tc := ⟨.hbm, 1505, rfl⟩
abbrev main_call2_call4_v166 : Ref sig .tc := ⟨.hbm, 1506, rfl⟩
abbrev main_call2_call4_v167 : Ref sig .tc := ⟨.hbm, 1507, rfl⟩
abbrev main_call2_call4_v168 : Ref sig .tc := ⟨.hbm, 1508, rfl⟩
abbrev main_call2_call4_v169 : Ref sig .tc := ⟨.hbm, 1509, rfl⟩
abbrev main_call2_call4_v170 : Ref sig .tc := ⟨.hbm, 1510, rfl⟩
abbrev main_call2_v23_0 : Ref sig .tc := ⟨.hbm, 1511, rfl⟩
abbrev main_call2_call4_v172 : Ref sig .tc := ⟨.hbm, 1512, rfl⟩
abbrev main_call2_call4_v173 : Ref sig .tc := ⟨.hbm, 1513, rfl⟩
abbrev main_call2_call4_c_44 : Ref sig .tc := ⟨.hbm, 1514, rfl⟩
abbrev main_call2_call4_v174 : Ref sig .tc := ⟨.hbm, 1515, rfl⟩
abbrev main_call2_v23_1 : Ref sig .tc := ⟨.hbm, 1516, rfl⟩
abbrev main_call2_v24 : Ref sig .tc := ⟨.hbm, 1517, rfl⟩
abbrev main_call2_v25 : Ref sig .tc := ⟨.hbm, 1518, rfl⟩
abbrev main_call2_v26 : Ref sig .tc := ⟨.hbm, 1519, rfl⟩
abbrev main_call2_v27 : Ref sig .tc := ⟨.hbm, 1520, rfl⟩
abbrev main_call2_v28 : Ref sig .tc := ⟨.hbm, 1521, rfl⟩
abbrev main_call2_v29 : Ref sig .tc := ⟨.hbm, 1522, rfl⟩
abbrev main_call2_c_8 : Ref sig .tc := ⟨.hbm, 1523, rfl⟩
abbrev main_call2_v30 : Ref sig .tc := ⟨.hbm, 1524, rfl⟩
abbrev main_call2_v31 : Ref sig .tc := ⟨.hbm, 1525, rfl⟩
abbrev main_call2_c_9 : Ref sig .tc := ⟨.hbm, 1526, rfl⟩
abbrev main_call2_v32 : Ref sig .tc := ⟨.hbm, 1527, rfl⟩
abbrev main_call2_v33 : Ref sig .tc := ⟨.hbm, 1528, rfl⟩
abbrev main_call2_v34 : Ref sig .tc := ⟨.hbm, 1529, rfl⟩
abbrev main_call2_v35 : Ref sig .tc := ⟨.hbm, 1530, rfl⟩
abbrev main_call2_call5_v0 : Ref sig .tc := ⟨.hbm, 1531, rfl⟩
abbrev main_call2_call5_c : Ref sig .tc := ⟨.hbm, 1532, rfl⟩
abbrev main_call2_call5_v1 : Ref sig .tc := ⟨.hbm, 1533, rfl⟩
abbrev main_call2_call5_v2 : Ref sig .tc := ⟨.hbm, 1534, rfl⟩
abbrev main_call2_call5_v3 : Ref sig .tc := ⟨.hbm, 1535, rfl⟩
abbrev main_call2_call5_v4 : Ref sig .tc := ⟨.hbm, 1536, rfl⟩
abbrev main_call2_call5_v5 : Ref sig .tc := ⟨.hbm, 1537, rfl⟩
abbrev main_call2_call5_v6 : Ref sig .tc := ⟨.hbm, 1538, rfl⟩
abbrev main_call2_call5_c_0 : Ref sig .tc := ⟨.hbm, 1539, rfl⟩
abbrev main_call2_call5_v7 : Ref sig .tc := ⟨.hbm, 1540, rfl⟩
abbrev main_call2_call5_v8 : Ref sig .tc := ⟨.hbm, 1541, rfl⟩
abbrev main_call2_call5_c_1 : Ref sig .tc := ⟨.hbm, 1542, rfl⟩
abbrev main_call2_call5_v9 : Ref sig .tc := ⟨.hbm, 1543, rfl⟩
abbrev main_call2_call5_v10 : Ref sig .tc := ⟨.hbm, 1544, rfl⟩
abbrev main_call2_call5_v11 : Ref sig .tc := ⟨.hbm, 1545, rfl⟩
abbrev main_call2_call5_v12 : Ref sig .tc := ⟨.hbm, 1546, rfl⟩
abbrev main_call2_call5_v13 : Ref sig .tc := ⟨.hbm, 1547, rfl⟩
abbrev main_call2_call5_c_2 : Ref sig .tc := ⟨.hbm, 1548, rfl⟩
abbrev main_call2_call5_v14 : Ref sig .tc := ⟨.hbm, 1549, rfl⟩
abbrev main_call2_call5_v15 : Ref sig .tc := ⟨.hbm, 1550, rfl⟩
abbrev main_call2_call5_c_3 : Ref sig .tc := ⟨.hbm, 1551, rfl⟩
abbrev main_call2_call5_v16 : Ref sig .tc := ⟨.hbm, 1552, rfl⟩
abbrev main_call2_call5_v17 : Ref sig .tc := ⟨.hbm, 1553, rfl⟩
abbrev main_call2_call5_v18 : Ref sig .tc := ⟨.hbm, 1554, rfl⟩
abbrev main_call2_call5_v19 : Ref sig .tc := ⟨.hbm, 1555, rfl⟩
abbrev main_call2_call5_v20 : Ref sig .tc := ⟨.hbm, 1556, rfl⟩
abbrev main_call2_call5_c_4 : Ref sig .tc := ⟨.hbm, 1557, rfl⟩
abbrev main_call2_call5_v21 : Ref sig .tc := ⟨.hbm, 1558, rfl⟩
abbrev main_call2_call5_v22 : Ref sig .tc := ⟨.hbm, 1559, rfl⟩
abbrev main_call2_call5_c_5 : Ref sig .tc := ⟨.hbm, 1560, rfl⟩
abbrev main_call2_call5_v23 : Ref sig .tc := ⟨.hbm, 1561, rfl⟩
abbrev main_call2_call5_v24 : Ref sig .tc := ⟨.hbm, 1562, rfl⟩
abbrev main_call2_call5_v25 : Ref sig .tc := ⟨.hbm, 1563, rfl⟩
abbrev main_call2_call5_v26 : Ref sig .tc := ⟨.hbm, 1564, rfl⟩
abbrev main_call2_call5_v27 : Ref sig .tc := ⟨.hbm, 1565, rfl⟩
abbrev main_call2_call5_c_6 : Ref sig .tc := ⟨.hbm, 1566, rfl⟩
abbrev main_call2_call5_v28 : Ref sig .tc := ⟨.hbm, 1567, rfl⟩
abbrev main_call2_call5_v29 : Ref sig .tc := ⟨.hbm, 1568, rfl⟩
abbrev main_call2_call5_c_7 : Ref sig .tc := ⟨.hbm, 1569, rfl⟩
abbrev main_call2_call5_v30 : Ref sig .tc := ⟨.hbm, 1570, rfl⟩
abbrev main_call2_call5_v31 : Ref sig .tc := ⟨.hbm, 1571, rfl⟩
abbrev main_call2_call5_v32 : Ref sig .tc := ⟨.hbm, 1572, rfl⟩
abbrev main_call2_call5_v33 : Ref sig .tc := ⟨.hbm, 1573, rfl⟩
abbrev main_call2_call5_v34 : Ref sig .tc := ⟨.hbm, 1574, rfl⟩
abbrev main_call2_call5_v35 : Ref sig .tc := ⟨.hbm, 1575, rfl⟩
abbrev main_call2_call5_v36 : Ref sig .tc := ⟨.hbm, 1576, rfl⟩
abbrev main_call2_call5_v37 : Ref sig .tc := ⟨.hbm, 1577, rfl⟩
abbrev main_call2_call5_c_8 : Ref sig .tc := ⟨.hbm, 1578, rfl⟩
abbrev main_call2_call5_v38 : Ref sig .tc := ⟨.hbm, 1579, rfl⟩
abbrev main_call2_call5_v39 : Ref sig .tc := ⟨.hbm, 1580, rfl⟩
abbrev main_call2_call5_v40 : Ref sig .tc := ⟨.hbm, 1581, rfl⟩
abbrev main_call2_call5_c_9 : Ref sig .tc := ⟨.hbm, 1582, rfl⟩
abbrev main_call2_call5_v41 : Ref sig .tc := ⟨.hbm, 1583, rfl⟩
abbrev main_call2_call5_v42 : Ref sig .tc := ⟨.hbm, 1584, rfl⟩
abbrev main_call2_call5_c_10 : Ref sig .tc := ⟨.hbm, 1585, rfl⟩
abbrev main_call2_call5_v43 : Ref sig .tc := ⟨.hbm, 1586, rfl⟩
abbrev main_call2_call5_v44 : Ref sig .tc := ⟨.hbm, 1587, rfl⟩
abbrev main_call2_call5_v45 : Ref sig .tc := ⟨.hbm, 1588, rfl⟩
abbrev main_call2_call5_v46 : Ref sig .tc := ⟨.hbm, 1589, rfl⟩
abbrev main_call2_call5_v47 : Ref sig .tc := ⟨.hbm, 1590, rfl⟩
abbrev main_call2_call5_c_11 : Ref sig .tc := ⟨.hbm, 1591, rfl⟩
abbrev main_call2_call5_v48 : Ref sig .tc := ⟨.hbm, 1592, rfl⟩
abbrev main_call2_call5_v49 : Ref sig .tc := ⟨.hbm, 1593, rfl⟩
abbrev main_call2_call5_c_12 : Ref sig .tc := ⟨.hbm, 1594, rfl⟩
abbrev main_call2_call5_v50 : Ref sig .tc := ⟨.hbm, 1595, rfl⟩
abbrev main_call2_call5_v51 : Ref sig .tc := ⟨.hbm, 1596, rfl⟩
abbrev main_call2_call5_v52 : Ref sig .tc := ⟨.hbm, 1597, rfl⟩
abbrev main_call2_call5_v53 : Ref sig .tc := ⟨.hbm, 1598, rfl⟩
abbrev main_call2_call5_v54 : Ref sig .tc := ⟨.hbm, 1599, rfl⟩
abbrev main_call2_call5_c_13 : Ref sig .tc := ⟨.hbm, 1600, rfl⟩
abbrev main_call2_call5_v55 : Ref sig .tc := ⟨.hbm, 1601, rfl⟩
abbrev main_call2_call5_v56 : Ref sig .tc := ⟨.hbm, 1602, rfl⟩
abbrev main_call2_call5_c_14 : Ref sig .tc := ⟨.hbm, 1603, rfl⟩
abbrev main_call2_call5_v57 : Ref sig .tc := ⟨.hbm, 1604, rfl⟩
abbrev main_call2_call5_v58 : Ref sig .tc := ⟨.hbm, 1605, rfl⟩
abbrev main_call2_call5_v59 : Ref sig .tc := ⟨.hbm, 1606, rfl⟩
abbrev main_call2_call5_v60 : Ref sig .tc := ⟨.hbm, 1607, rfl⟩
abbrev main_call2_call5_v61 : Ref sig .tc := ⟨.hbm, 1608, rfl⟩
abbrev main_call2_call5_c_15 : Ref sig .tc := ⟨.hbm, 1609, rfl⟩
abbrev main_call2_call5_v62 : Ref sig .tc := ⟨.hbm, 1610, rfl⟩
abbrev main_call2_call5_v63 : Ref sig .tc := ⟨.hbm, 1611, rfl⟩
abbrev main_call2_call5_c_16 : Ref sig .tc := ⟨.hbm, 1612, rfl⟩
abbrev main_call2_call5_v64 : Ref sig .tc := ⟨.hbm, 1613, rfl⟩
abbrev main_call2_call5_v65 : Ref sig .tc := ⟨.hbm, 1614, rfl⟩
abbrev main_call2_call5_v66 : Ref sig .tc := ⟨.hbm, 1615, rfl⟩
abbrev main_call2_call5_v67 : Ref sig .tc := ⟨.hbm, 1616, rfl⟩
abbrev main_call2_call5_v68 : Ref sig .tc := ⟨.hbm, 1617, rfl⟩
abbrev main_call2_call5_v69 : Ref sig .tc := ⟨.hbm, 1618, rfl⟩
abbrev main_call2_call5_v70 : Ref sig .tc := ⟨.hbm, 1619, rfl⟩
abbrev main_call2_call5_v71 : Ref sig .tc := ⟨.hbm, 1620, rfl⟩
abbrev main_call2_call5_c_17 : Ref sig .tc := ⟨.hbm, 1621, rfl⟩
abbrev main_call2_call5_v72 : Ref sig .tc := ⟨.hbm, 1622, rfl⟩
abbrev main_call2_call5_v73 : Ref sig .tc := ⟨.hbm, 1623, rfl⟩
abbrev main_call2_call5_v74 : Ref sig .tc := ⟨.hbm, 1624, rfl⟩
abbrev main_call2_call5_c_18 : Ref sig .tc := ⟨.hbm, 1625, rfl⟩
abbrev main_call2_call5_v75 : Ref sig .tc := ⟨.hbm, 1626, rfl⟩
abbrev main_call2_call5_v76 : Ref sig .tc := ⟨.hbm, 1627, rfl⟩
abbrev main_call2_call5_c_19 : Ref sig .tc := ⟨.hbm, 1628, rfl⟩
abbrev main_call2_call5_v77 : Ref sig .tc := ⟨.hbm, 1629, rfl⟩
abbrev main_call2_call5_v78 : Ref sig .tc := ⟨.hbm, 1630, rfl⟩
abbrev main_call2_call5_v79 : Ref sig .tc := ⟨.hbm, 1631, rfl⟩
abbrev main_call2_call5_v80 : Ref sig .tc := ⟨.hbm, 1632, rfl⟩
abbrev main_call2_call5_v81 : Ref sig .tc := ⟨.hbm, 1633, rfl⟩
abbrev main_call2_call5_c_20 : Ref sig .tc := ⟨.hbm, 1634, rfl⟩
abbrev main_call2_call5_v82 : Ref sig .tc := ⟨.hbm, 1635, rfl⟩
abbrev main_call2_call5_v83 : Ref sig .tc := ⟨.hbm, 1636, rfl⟩
abbrev main_call2_call5_c_21 : Ref sig .tc := ⟨.hbm, 1637, rfl⟩
abbrev main_call2_call5_v84 : Ref sig .tc := ⟨.hbm, 1638, rfl⟩
abbrev main_call2_call5_v85 : Ref sig .tc := ⟨.hbm, 1639, rfl⟩
abbrev main_call2_call5_v86 : Ref sig .tc := ⟨.hbm, 1640, rfl⟩
abbrev main_call2_call5_v87 : Ref sig .tc := ⟨.hbm, 1641, rfl⟩
abbrev main_call2_call5_v88 : Ref sig .tc := ⟨.hbm, 1642, rfl⟩
abbrev main_call2_call5_c_22 : Ref sig .tc := ⟨.hbm, 1643, rfl⟩
abbrev main_call2_call5_v89 : Ref sig .tc := ⟨.hbm, 1644, rfl⟩
abbrev main_call2_call5_v90 : Ref sig .tc := ⟨.hbm, 1645, rfl⟩
abbrev main_call2_call5_c_23 : Ref sig .tc := ⟨.hbm, 1646, rfl⟩
abbrev main_call2_call5_v91 : Ref sig .tc := ⟨.hbm, 1647, rfl⟩
abbrev main_call2_call5_v92 : Ref sig .tc := ⟨.hbm, 1648, rfl⟩
abbrev main_call2_call5_v93 : Ref sig .tc := ⟨.hbm, 1649, rfl⟩
abbrev main_call2_call5_v94 : Ref sig .tc := ⟨.hbm, 1650, rfl⟩
abbrev main_call2_call5_v95 : Ref sig .tc := ⟨.hbm, 1651, rfl⟩
abbrev main_call2_call5_c_24 : Ref sig .tc := ⟨.hbm, 1652, rfl⟩
abbrev main_call2_call5_v96 : Ref sig .tc := ⟨.hbm, 1653, rfl⟩
abbrev main_call2_call5_v97 : Ref sig .tc := ⟨.hbm, 1654, rfl⟩
abbrev main_call2_call5_c_25 : Ref sig .tc := ⟨.hbm, 1655, rfl⟩
abbrev main_call2_call5_v98 : Ref sig .tc := ⟨.hbm, 1656, rfl⟩
abbrev main_call2_call5_v99 : Ref sig .tc := ⟨.hbm, 1657, rfl⟩
abbrev main_call2_call5_v100 : Ref sig .tc := ⟨.hbm, 1658, rfl⟩
abbrev main_call2_call5_v101 : Ref sig .tc := ⟨.hbm, 1659, rfl⟩
abbrev main_call2_call5_v102 : Ref sig .tc := ⟨.hbm, 1660, rfl⟩
abbrev main_call2_call5_v103 : Ref sig .tc := ⟨.hbm, 1661, rfl⟩
abbrev main_call2_call5_v104 : Ref sig .tc := ⟨.hbm, 1662, rfl⟩
abbrev main_call2_call5_v105 : Ref sig .tc := ⟨.hbm, 1663, rfl⟩
abbrev main_call2_call5_c_26 : Ref sig .tc := ⟨.hbm, 1664, rfl⟩
abbrev main_call2_call5_v106 : Ref sig .tc := ⟨.hbm, 1665, rfl⟩
abbrev main_call2_call5_v107 : Ref sig .tc := ⟨.hbm, 1666, rfl⟩
abbrev main_call2_call5_v108 : Ref sig .tc := ⟨.hbm, 1667, rfl⟩
abbrev main_call2_call5_c_27 : Ref sig .tc := ⟨.hbm, 1668, rfl⟩
abbrev main_call2_call5_v109 : Ref sig .tc := ⟨.hbm, 1669, rfl⟩
abbrev main_call2_call5_v110 : Ref sig .tc := ⟨.hbm, 1670, rfl⟩
abbrev main_call2_call5_c_28 : Ref sig .tc := ⟨.hbm, 1671, rfl⟩
abbrev main_call2_call5_v111 : Ref sig .tc := ⟨.hbm, 1672, rfl⟩
abbrev main_call2_call5_v112 : Ref sig .tc := ⟨.hbm, 1673, rfl⟩
abbrev main_call2_call5_v113 : Ref sig .tc := ⟨.hbm, 1674, rfl⟩
abbrev main_call2_call5_v114 : Ref sig .tc := ⟨.hbm, 1675, rfl⟩
abbrev main_call2_call5_v115 : Ref sig .tc := ⟨.hbm, 1676, rfl⟩
abbrev main_call2_call5_c_29 : Ref sig .tc := ⟨.hbm, 1677, rfl⟩
abbrev main_call2_call5_v116 : Ref sig .tc := ⟨.hbm, 1678, rfl⟩
abbrev main_call2_call5_v117 : Ref sig .tc := ⟨.hbm, 1679, rfl⟩
abbrev main_call2_call5_c_30 : Ref sig .tc := ⟨.hbm, 1680, rfl⟩
abbrev main_call2_call5_v118 : Ref sig .tc := ⟨.hbm, 1681, rfl⟩
abbrev main_call2_call5_v119 : Ref sig .tc := ⟨.hbm, 1682, rfl⟩
abbrev main_call2_call5_v120 : Ref sig .tc := ⟨.hbm, 1683, rfl⟩
abbrev main_call2_call5_v121 : Ref sig .tc := ⟨.hbm, 1684, rfl⟩
abbrev main_call2_call5_v122 : Ref sig .tc := ⟨.hbm, 1685, rfl⟩
abbrev main_call2_call5_c_31 : Ref sig .tc := ⟨.hbm, 1686, rfl⟩
abbrev main_call2_call5_v123 : Ref sig .tc := ⟨.hbm, 1687, rfl⟩
abbrev main_call2_call5_v124 : Ref sig .tc := ⟨.hbm, 1688, rfl⟩
abbrev main_call2_call5_c_32 : Ref sig .tc := ⟨.hbm, 1689, rfl⟩
abbrev main_call2_call5_v125 : Ref sig .tc := ⟨.hbm, 1690, rfl⟩
abbrev main_call2_call5_v126 : Ref sig .tc := ⟨.hbm, 1691, rfl⟩
abbrev main_call2_call5_v127 : Ref sig .tc := ⟨.hbm, 1692, rfl⟩
abbrev main_call2_call5_v128 : Ref sig .tc := ⟨.hbm, 1693, rfl⟩
abbrev main_call2_call5_v129 : Ref sig .tc := ⟨.hbm, 1694, rfl⟩
abbrev main_call2_call5_c_33 : Ref sig .tc := ⟨.hbm, 1695, rfl⟩
abbrev main_call2_call5_v130 : Ref sig .tc := ⟨.hbm, 1696, rfl⟩
abbrev main_call2_call5_v131 : Ref sig .tc := ⟨.hbm, 1697, rfl⟩
abbrev main_call2_call5_c_34 : Ref sig .tc := ⟨.hbm, 1698, rfl⟩
abbrev main_call2_call5_v132 : Ref sig .tc := ⟨.hbm, 1699, rfl⟩
abbrev main_call2_call5_v133 : Ref sig .tc := ⟨.hbm, 1700, rfl⟩
abbrev main_call2_call5_v134 : Ref sig .tc := ⟨.hbm, 1701, rfl⟩
abbrev main_call2_call5_v135 : Ref sig .tc := ⟨.hbm, 1702, rfl⟩
abbrev main_call2_call5_v136 : Ref sig .tc := ⟨.hbm, 1703, rfl⟩
abbrev main_call2_call5_v137 : Ref sig .tc := ⟨.hbm, 1704, rfl⟩
abbrev main_call2_call5_v138 : Ref sig .tc := ⟨.hbm, 1705, rfl⟩
abbrev main_call2_call5_v139 : Ref sig .tc := ⟨.hbm, 1706, rfl⟩
abbrev main_call2_call5_c_35 : Ref sig .tc := ⟨.hbm, 1707, rfl⟩
abbrev main_call2_call5_v140 : Ref sig .tc := ⟨.hbm, 1708, rfl⟩
abbrev main_call2_call5_v141 : Ref sig .tc := ⟨.hbm, 1709, rfl⟩
abbrev main_call2_call5_v142 : Ref sig .tc := ⟨.hbm, 1710, rfl⟩
abbrev main_call2_call5_c_36 : Ref sig .tc := ⟨.hbm, 1711, rfl⟩
abbrev main_call2_call5_v143 : Ref sig .tc := ⟨.hbm, 1712, rfl⟩
abbrev main_call2_call5_v144 : Ref sig .tc := ⟨.hbm, 1713, rfl⟩
abbrev main_call2_call5_c_37 : Ref sig .tc := ⟨.hbm, 1714, rfl⟩
abbrev main_call2_call5_v145 : Ref sig .tc := ⟨.hbm, 1715, rfl⟩
abbrev main_call2_call5_v146 : Ref sig .tc := ⟨.hbm, 1716, rfl⟩
abbrev main_call2_call5_v147 : Ref sig .tc := ⟨.hbm, 1717, rfl⟩
abbrev main_call2_call5_v148 : Ref sig .tc := ⟨.hbm, 1718, rfl⟩
abbrev main_call2_call5_v149 : Ref sig .tc := ⟨.hbm, 1719, rfl⟩
abbrev main_call2_call5_c_38 : Ref sig .tc := ⟨.hbm, 1720, rfl⟩
abbrev main_call2_call5_v150 : Ref sig .tc := ⟨.hbm, 1721, rfl⟩
abbrev main_call2_call5_v151 : Ref sig .tc := ⟨.hbm, 1722, rfl⟩
abbrev main_call2_call5_c_39 : Ref sig .tc := ⟨.hbm, 1723, rfl⟩
abbrev main_call2_call5_v152 : Ref sig .tc := ⟨.hbm, 1724, rfl⟩
abbrev main_call2_call5_v153 : Ref sig .tc := ⟨.hbm, 1725, rfl⟩
abbrev main_call2_call5_v154 : Ref sig .tc := ⟨.hbm, 1726, rfl⟩
abbrev main_call2_call5_v155 : Ref sig .tc := ⟨.hbm, 1727, rfl⟩
abbrev main_call2_call5_v156 : Ref sig .tc := ⟨.hbm, 1728, rfl⟩
abbrev main_call2_call5_c_40 : Ref sig .tc := ⟨.hbm, 1729, rfl⟩
abbrev main_call2_call5_v157 : Ref sig .tc := ⟨.hbm, 1730, rfl⟩
abbrev main_call2_call5_v158 : Ref sig .tc := ⟨.hbm, 1731, rfl⟩
abbrev main_call2_call5_c_41 : Ref sig .tc := ⟨.hbm, 1732, rfl⟩
abbrev main_call2_call5_v159 : Ref sig .tc := ⟨.hbm, 1733, rfl⟩
abbrev main_call2_call5_v160 : Ref sig .tc := ⟨.hbm, 1734, rfl⟩
abbrev main_call2_call5_v161 : Ref sig .tc := ⟨.hbm, 1735, rfl⟩
abbrev main_call2_call5_v162 : Ref sig .tc := ⟨.hbm, 1736, rfl⟩
abbrev main_call2_call5_v163 : Ref sig .tc := ⟨.hbm, 1737, rfl⟩
abbrev main_call2_call5_c_42 : Ref sig .tc := ⟨.hbm, 1738, rfl⟩
abbrev main_call2_call5_v164 : Ref sig .tc := ⟨.hbm, 1739, rfl⟩
abbrev main_call2_call5_v165 : Ref sig .tc := ⟨.hbm, 1740, rfl⟩
abbrev main_call2_call5_c_43 : Ref sig .tc := ⟨.hbm, 1741, rfl⟩
abbrev main_call2_call5_v166 : Ref sig .tc := ⟨.hbm, 1742, rfl⟩
abbrev main_call2_call5_v167 : Ref sig .tc := ⟨.hbm, 1743, rfl⟩
abbrev main_call2_call5_v168 : Ref sig .tc := ⟨.hbm, 1744, rfl⟩
abbrev main_call2_call5_v169 : Ref sig .tc := ⟨.hbm, 1745, rfl⟩
abbrev main_call2_call5_v170 : Ref sig .tc := ⟨.hbm, 1746, rfl⟩
abbrev main_call2_v36_0 : Ref sig .tc := ⟨.hbm, 1747, rfl⟩
abbrev main_call2_call5_v172 : Ref sig .tc := ⟨.hbm, 1748, rfl⟩
abbrev main_call2_call5_v173 : Ref sig .tc := ⟨.hbm, 1749, rfl⟩
abbrev main_call2_call5_c_44 : Ref sig .tc := ⟨.hbm, 1750, rfl⟩
abbrev main_call2_call5_v174 : Ref sig .tc := ⟨.hbm, 1751, rfl⟩
abbrev main_call2_v36_1 : Ref sig .tc := ⟨.hbm, 1752, rfl⟩
abbrev main_call2_v37 : Ref sig .tc := ⟨.hbm, 1753, rfl⟩
abbrev main_call2_v38 : Ref sig .tc := ⟨.hbm, 1754, rfl⟩
abbrev main_call2_v39 : Ref sig .tc := ⟨.hbm, 1755, rfl⟩
abbrev main_call2_v40 : Ref sig .tc := ⟨.hbm, 1756, rfl⟩
abbrev main_call2_v41 : Ref sig .tc := ⟨.hbm, 1757, rfl⟩
abbrev main_call2_v42 : Ref sig .tc := ⟨.hbm, 1758, rfl⟩
abbrev main_call2_c_10 : Ref sig .tc := ⟨.hbm, 1759, rfl⟩
abbrev main_call2_v43 : Ref sig .tc := ⟨.hbm, 1760, rfl⟩
abbrev main_call2_v44 : Ref sig .tc := ⟨.hbm, 1761, rfl⟩
abbrev main_call2_v45 : Ref sig .tc := ⟨.hbm, 1762, rfl⟩
abbrev main_call2_v46 : Ref sig .tc := ⟨.hbm, 1763, rfl⟩
abbrev main_call2_v47 : Ref sig .tc := ⟨.hbm, 1764, rfl⟩
abbrev main_call2_c_11 : Ref sig .tc := ⟨.hbm, 1765, rfl⟩
abbrev main_call2_v48 : Ref sig .tc := ⟨.hbm, 1766, rfl⟩
abbrev main_call2_v49 : Ref sig .tc := ⟨.hbm, 1767, rfl⟩
abbrev main_call2_v50 : Ref sig .tc := ⟨.hbm, 1768, rfl⟩
abbrev main_call2_c_12 : Ref sig .tc := ⟨.hbm, 1769, rfl⟩
abbrev main_call2_v51 : Ref sig .tc := ⟨.hbm, 1770, rfl⟩
abbrev main_call2_v52 : Ref sig .tc := ⟨.hbm, 1771, rfl⟩
abbrev main_call2_v53 : Ref sig .tc := ⟨.hbm, 1772, rfl⟩
abbrev main_call2_v54 : Ref sig .tc := ⟨.hbm, 1773, rfl⟩
abbrev main_call2_v55 : Ref sig .tc := ⟨.hbm, 1774, rfl⟩
abbrev main_call2_v56 : Ref sig .tc := ⟨.hbm, 1775, rfl⟩
abbrev main_call2_v57 : Ref sig .tc := ⟨.hbm, 1776, rfl⟩
abbrev main_call2_v58 : Ref sig .tc := ⟨.hbm, 1777, rfl⟩
abbrev main_call2_v59 : Ref sig .tc := ⟨.hbm, 1778, rfl⟩
abbrev main_call2_v60 : Ref sig .tc := ⟨.hbm, 1779, rfl⟩
abbrev main_call2_v61 : Ref sig .tc := ⟨.hbm, 1780, rfl⟩
abbrev main_v15 : Ref sig .tc := ⟨.hbm, 1781, rfl⟩
abbrev main_v16 : Ref sig .tc := ⟨.hbm, 1782, rfl⟩
abbrev main_v17 : Ref sig .tc := ⟨.hbm, 1783, rfl⟩
abbrev main_v18 : Ref sig .tc := ⟨.hbm, 1784, rfl⟩
abbrev main_v19 : Ref sig .tc := ⟨.hbm, 1785, rfl⟩
abbrev main_v20 : Ref sig .tc := ⟨.hbm, 1786, rfl⟩
abbrev main_v21 : Ref sig .tc := ⟨.hbm, 1787, rfl⟩
abbrev main_v22 : Ref sig .tc := ⟨.hbm, 1788, rfl⟩
abbrev main_v23 : Ref sig .tc := ⟨.hbm, 1789, rfl⟩
abbrev main_v24 : Ref sig .tc := ⟨.hbm, 1790, rfl⟩
abbrev main_v25 : Ref sig .tc := ⟨.hbm, 1791, rfl⟩
abbrev main_v26 : Ref sig .tc := ⟨.hbm, 1792, rfl⟩
abbrev main_v27 : Ref sig .tc := ⟨.hbm, 1793, rfl⟩
abbrev main_v28 : Ref sig .tc := ⟨.hbm, 1794, rfl⟩
abbrev main_v29 : Ref sig .tc := ⟨.hbm, 1795, rfl⟩
abbrev main_cst : Ref sig .tc := ⟨.hbm, 1796, rfl⟩
abbrev main_call3_v0 : Ref sig .tc := ⟨.hbm, 1797, rfl⟩
abbrev main_call3_v1 : Ref sig .tc := ⟨.hbm, 1798, rfl⟩
abbrev main_v30 : Ref sig .tc := ⟨.hbm, 1799, rfl⟩

abbrev nD : Nat := 1
abbrev τ : Topo := Topo.v7x

variable {F : FTy → Type} [FloatOps F]
-- ==== Proof.KernelValue.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Claim
public import Idealize.ShloMosaic.Lib.Pointwise

/-!
The kernel's result.

The program lays its argument out as 16384 rows, multiplies each row by its word of a scale table in 32 blocks of 512 rows,
and lays the product out again. `run` says that every run ends with every entry of the argument times its row's scale.
-/

@[expose] public section

set_option maxRecDepth 16384

noncomputable section

namespace Cert.KernelIdeal.Masked

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The word that the program's scale table holds for row `r`: 0.0 on a masked row, 1.0 on a kept one. -/
def scaleWord (r : Fin 16384) : BitVec 32 := lit0 r

/-- The region's product: each of the 16384 rows of the argument, times its row's scale. -/
def scaledRows (x : FVec F S128x128x3000 .f32) : FVec F S16384x3000 .f32 := fun j =>
  FloatOps.mulf (shapeCast S16384x3000 x shapeCasts_S128x128x3000_S16384x3000 j) (FloatOps.ofBits .f32 (scaleWord (j 0)))

/-- What the region finds in its first operand: the argument as 16384 rows. -/
theorem V_rows (c : Dev nD) :
    V m c main_v0 = shapeCast S16384x3000 (m ((c : Thread nD τ).loc main_arg0)) shapeCasts_S128x128x3000_S16384x3000 := by
  show StableHlo.after hostOps0 _ (Proc.devRef .tc _) = _
  after_results
  rfl

/-- What the region finds in its second operand: the scale table. -/
theorem V_scale (c : Dev nD) :
    V m c main_cst = fun i : S16384x1.Idx => FloatOps.ofBits .f32 (scaleWord (Fin.cast rfl (S16384x1.rowMajor i))) := by
  show StableHlo.after hostOps0 _ (Proc.devRef .tc _) = _
  after_results
  rfl

/-- An entry of the 16384 x 1 table has its row as its place in row-major order. -/
theorem column_row (z : S16384x1.Idx) : (S16384x1.rowMajor z).val = (z 0).val := by
  have h : (z 1).val = 0 := Nat.lt_one_iff.mp (z 1).isLt
  rw [Shape.rowMajor_val_two, h]
  exact Nat.mul_one _

/-- After the last block, the region's output array holds the scaled rows. -/
theorem arr (c : Dev nD) : (dats m 0 c).arrAt 2 (cfgs 0).N = scaledRows (m ((c : Thread nD τ).loc main_arg0)) := by
  refine (dats m 0 c).arrAt_eq_of_covers 2 _ (by decide +kernel) fun t hf y => ?_
  blk_simp
  rw [after0_2]
  frame_out
  unfold k0_pay1 iblk
  dsimp only
  have e0 : V m c (Pipeline.arrRef spec0 0) = _ := V_rows m c
  have e1 : V m c (Pipeline.arrRef spec0 1) = _ := V_scale m c
  rw [e0, e1]
  unfold scaledRows
  refine congrArg₂ (FloatOps.mulf (φ := .f32)) ?_ ?_
  · exact shapeCast_apply (s := S512x3000) (t := S512x3000) _ _ y y rfl
  · refine (broadcastTo_apply (s := S512x1) (t := S512x3000) _ _ y (ix2 (y 0 : Fin 512) (0 : Fin 1)) ?_).trans ?_
    · intro a
      fin_cases a <;> simp [ix2]
    · refine congrArg (fun r => FloatOps.ofBits .f32 (scaleWord r)) (Fin.ext ?_)
      exact column_row _

/-- The row of frequency `f` in sample `b`. -/
def rowOf (b f : Fin 128) : Fin 16384 := ⟨b.val * 128 + f.val, by omega⟩

/-- Every entry of the argument times its row's scale. -/
def scaled (x : FVec F S128x128x3000 .f32) : FVec F S128x128x3000 .f32 := fun i =>
  FloatOps.mulf (x i) (FloatOps.ofBits .f32 (scaleWord (rowOf (i 0) (i 1))))

/-- The scaled rows, laid out again as samples, frequencies and times. -/
theorem scaledRows_laid (x : FVec F S128x128x3000 .f32) :
    shapeCast S128x128x3000 (scaledRows x) shapeCasts_S16384x3000_S128x128x3000 = scaled x := by
  funext i
  have hi : (S16384x3000.rowMajor (ix2 (rowOf (i 0) (i 1)) (i 2 : Fin 3000))).val = (S128x128x3000.rowMajor i).val := by
    rw [Shape.rowMajor_val_two, Shape.rowMajor_val_three]
    rfl
  refine (shapeCast_apply (s := S16384x3000) (t := S128x128x3000) _ _ i (ix2 (rowOf (i 0) (i 1)) (i 2 : Fin 3000)) hi).trans ?_
  exact congrArg (fun e => FloatOps.mulf e (FloatOps.ofBits .f32 (scaleWord (rowOf (i 0) (i 1)))))
    (shapeCast_apply x _ _ i hi.symm)

/-- Every run of the kernel ends with its result the scaled argument, and the argument as launched. -/
theorem run : θ_run defs (onTc (τ := τ) (main (F := F))) ⟨m, fun _ => 0, ρ⟩ fun r => ∀ c : Dev nD,
      r.2.mem ((c : Thread nD τ).loc main_v2) = scaled (m ((c : Thread nD τ).loc main_arg0))
      ∧ r.2.mem ((c : Thread nD τ).loc main_arg0) = m ((c : Thread nD τ).loc main_arg0) := by
  run_from Gen.run_main m ρ
  · show StableHlo.after hostOps1 _ (Proc.devRef .tc _) = _
    after_results
    rw [show Pipeline.withArrays (cfgs 0).spec c (V0 m c) (fun w => (dats m 0 c).arrAt w (cfgs 0).N)
        (Proc.tc.devRef main_v1) = scaledRows (m ((c : Thread nD τ).loc main_arg0)) from
      (Pipeline.withArrays_arr (cfgs 0).spec (by decide) c (V0 m c) (fun w => (dats m 0 c).arrAt w (cfgs 0).N) 2).trans (arr m c)]
    exact scaledRows_laid _
  · exact W_main_arg0 m (dats m) c

end Cert.KernelIdeal.Masked

end
-- ==== Proof.Draws.lean ====
module

public import proofs.«01_k».proof.ReferenceIdeal
public import Idealize.ShloMosaic.PureOps

/-!
The reference's random draws, as functions of 32-bit words, and their values.

`threefry` is the block cipher behind the reference's random bits, `draw` the reference's recipe for one integer of a range.
For the reference's seed 42, `width b` and `first b` are how many rows of sample `b` it masks and which is the first of
them. Their 128 values each are computed at the end of the file.
-/

@[expose] public section

set_option maxRecDepth 65536

namespace Cert.ReferenceIdeal.Draws

open Idealize.ShloMosaic

/-- A 32-bit word. -/
abbrev Word : Type := BitVec 32

/-! ## The cipher -/

/-- One round: the sum, and the second word rotated left by `r` and mixed with the sum. -/
def round (r : Nat) (p : Word × Word) : Word × Word :=
  (IntOp.addi p.1 p.2, IntOp.xori (IntOp.addi p.1 p.2)
    (IntOp.ori (IntOp.shli .host p.2 (BitVec.ofNat 32 r)) (IntOp.shrui .host p.2 (BitVec.ofNat 32 (32 - r)))))

/-- A key addition, with a count added to the second word. -/
def inject (n : Nat) (k k' : Word) (p : Word × Word) : Word × Word :=
  (IntOp.addi p.1 k, IntOp.addi (IntOp.addi p.2 k') (BitVec.ofNat 32 n))

/-- Four rounds and a key addition. -/
def group (r₀ r₁ r₂ r₃ n : Nat) (k k' : Word) (p : Word × Word) : Word × Word :=
  inject n k k' (round r₃ (round r₂ (round r₁ (round r₀ p))))

/-- The third key word. -/
def third (k k' : Word) : Word := IntOp.xori (IntOp.xori k k') 466688986#32

/-- The cipher of the pair `a`, `b` under the key `k`, `k'`. -/
def threefry (k k' a b : Word) : Word × Word :=
  group 13 15 26 6 5 (third k k') k
  (group 17 29 16 24 4 k' (third k k')
  (group 13 15 26 6 3 k k'
  (group 17 29 16 24 2 (third k k') k
  (group 13 15 26 6 1 k' (third k k') (IntOp.addi a k, IntOp.addi b k')))))

/-! ## Keys, bits and draws -/

/-- The counter `n` as a 64-bit word. -/
def counter (n : Nat) : BitVec 64 := IntOp.muli 1#64 (BitVec.ofNat 64 n)

/-- The cipher of the counter `n`. -/
def block (key : Word × Word) (n : Nat) : Word × Word :=
  threefry key.1 key.2 ((IntOp.shrui .host (counter n) 32#64).setWidth 32) ((counter n).setWidth 32)

/-- The `n`-th random word of a key. -/
def bits (key : Word × Word) (n : Nat) : Word := IntOp.xori (block key n).1 (block key n).2

/-- A word held between `lo` and `hi`. -/
def clip (x lo hi : Word) : Word := IntOp.minsi hi (IntOp.maxsi lo x)

/-- A word held between the least and the greatest integer. -/
def held (x : Word) : Word := clip x 2147483648#32 2147483647#32

/-- The number of integers from `lo` up to but not `hi`. -/
def span (lo hi : Word) : Word :=
  Scalar.select (IntOp.andi (IntOp.cmpi .sgt hi (held 2147483647#32)) (IntOp.cmpi .sgt (held hi) (held lo)))
    (IntOp.addi (Scalar.select (IntOp.cmpi .sle (held hi) (held lo)) 1#32 (IntOp.subi (held hi) (held lo))) 1#32)
    (Scalar.select (IntOp.cmpi .sle (held hi) (held lo)) 1#32 (IntOp.subi (held hi) (held lo)))

/-- What the high digit counts modulo `s`: 65536 squared. -/
def multiplier (s : Word) : Word :=
  IntOp.remui .host (IntOp.muli (IntOp.remui .host 65536#32 s) (IntOp.remui .host 65536#32 s)) s

/-- Two random words `a` and `b`, read as the digits of one number of 64 bits, modulo `s`. -/
def reduce (s a b : Word) : Word :=
  IntOp.remui .host
    (IntOp.addi (IntOp.muli (IntOp.remui .host a s) (multiplier s)) (IntOp.remui .host b s)) s

/-- The `n`-th integer of a key, from `lo` up to but not `hi`. -/
def draw (key : Word × Word) (lo hi : Word) (n : Nat) : Word :=
  IntOp.addi (held lo) (reduce (span lo hi) (bits (block key 0) n) (bits (block key 1) n))

/-- The seed's key. -/
def seed : Word × Word := (IntOp.shrui .host 42#32 32#32, IntOp.andi 42#32 4294967295#32)

/-- How many rows of sample `n` are masked. -/
def width (n : Nat) : Word := draw (block seed 0) 0#32 27#32 n

/-- The first masked row of sample `n`. -/
def first (n : Nat) : Word := draw (block seed 1) 0#32 (IntOp.subi 128#32 (width n)) n

/-- Whether row `r` is one of the `w` rows from row `f` on: the bit 1 if so. -/
def mark (w f : Word) (r : Nat) : BitVec 1 :=
  IntOp.andi (IntOp.cmpi .sge (BitVec.ofNat 32 r) f) (IntOp.cmpi .slt (BitVec.ofNat 32 r) (IntOp.addi f w))

/-! ## Their values -/

/-- The widths of the 128 samples. -/
def widths : List Nat := [
    13, 9, 14, 5, 25, 3, 3, 12, 8, 20, 13, 3, 12, 3, 19, 16, 26, 4, 14, 4, 2, 17, 10, 22,
    6, 7, 22, 5, 24, 18, 3, 22, 6, 8, 1, 10, 22, 15, 15, 13, 11, 20, 11, 24, 11, 11, 24, 2,
    22, 18, 11, 25, 0, 21, 26, 3, 3, 4, 25, 18, 18, 10, 0, 21, 12, 18, 6, 21, 11, 14, 22, 6,
    5, 20, 16, 15, 10, 0, 16, 21, 22, 16, 7, 8, 22, 8, 16, 15, 0, 7, 17, 0, 17, 2, 5, 13,
    3, 24, 5, 3, 10, 14, 4, 13, 20, 10, 12, 0, 19, 6, 6, 20, 17, 15, 10, 20, 20, 7, 23, 17,
    16, 0, 13, 20, 14, 5, 19, 6]

/-- The first rows of the 128 samples. -/
def firsts : List Nat := [
    50, 77, 22, 110, 102, 79, 41, 82, 116, 103, 25, 36, 20, 26, 33, 52, 69, 58, 7, 35, 113, 39, 84, 86,
    36, 117, 76, 50, 42, 33, 88, 44, 36, 3, 87, 34, 20, 45, 72, 65, 64, 19, 111, 71, 22, 88, 41, 6,
    8, 97, 8, 57, 21, 23, 28, 55, 13, 12, 79, 20, 103, 61, 39, 55, 100, 37, 93, 58, 84, 100, 58, 114,
    5, 100, 2, 28, 49, 9, 8, 73, 8, 55, 7, 74, 59, 86, 13, 33, 81, 115, 101, 61, 28, 125, 47, 21,
    30, 10, 0, 33, 78, 31, 116, 39, 45, 117, 47, 86, 79, 28, 64, 107, 90, 55, 98, 46, 104, 105, 47, 12,
    67, 34, 1, 81, 65, 26, 57, 43]

theorem width_eq : ∀ b : Fin 128, width b.val = BitVec.ofNat 32 (widths.getD b.val 0) := by
  decide +kernel

theorem first_eq : ∀ b : Fin 128, first b.val = BitVec.ofNat 32 (firsts.getD b.val 0) := by
  decide +kernel

end Cert.ReferenceIdeal.Draws

end
-- ==== Proof.Table.lean ====
module

public import proofs.«01_k».proof.Proof.KernelValue
public import proofs.«01_k».proof.Proof.Draws

/-!
The kernel's scale table holds 0.0 exactly in the rows that the reference's draws mark, and 1.0 in the others: all 16384
words are compared, by computation.
-/

@[expose] public section

set_option maxRecDepth 65536

noncomputable section

namespace Cert.Agree

open Idealize.ShloMosaic
open Cert.KernelIdeal.Masked Cert.ReferenceIdeal.Draws

/-- The scale table against the computed widths and first rows. -/
theorem table_listed : ∀ b r : Fin 128, scaleWord (rowOf b r) =
    Scalar.select (mark (BitVec.ofNat 32 (widths.getD b.val 0)) (BitVec.ofNat 32 (firsts.getD b.val 0)) r.val)
      0x00000000#32 0x3F800000#32 := by
  decide +kernel

/-- The scale table is 0.0 in the rows that the draws mark, and 1.0 in the others. -/
theorem table_eq (b r : Fin 128) : scaleWord (rowOf b r) =
    Scalar.select (mark (width b.val) (first b.val) r.val) 0x00000000#32 0x3F800000#32 := by
  rw [width_eq b, first_eq b]
  exact table_listed b r

end Cert.Agree

end
-- ==== Proof.HostLine.lean ====
module

public import proofs.«01_k».proof.ReferenceIdeal
public import proofs.«01_k».proof.Proof.Gen.ReferenceIdeal
public import Idealize.ShloMosaic.Lib.StableHlo.Run
public import Idealize.ShloMosaic.Lib.StableHlo.RunHlo

/-!
A straight line of host operations, each writing one buffer of its own.

A line is a list of `Op`s. Its buffers are numbered, every operation reads buffers of smaller numbers than the one it
writes, and the numbers written grow along the line (`ok`, a computation). So no buffer that an operation reads or writes is
written again later: in the contents at the end of the line, every operation's equation holds (`holds_after`). The contents
at the end are then known from the equations alone, without following the line.
-/

@[expose] public section

namespace Cert.ReferenceIdeal.Line

open Idealize.ShloMosaic Idealize.ShloMosaic.TcCoe Idealize.SL.Sem
open Idealize.ShloMosaic.StableHlo (TRef after)
open Cert.ReferenceIdeal

variable {F : FTy → Type} [FloatOps F]

/-- A host operation on whole buffers: its operands, its result, and its function. -/
inductive Op (F : FTy → Type) : Type where
  | nullary {Ty : BufTy} (y : TRef sig Ty) (v : Ty.Contents (Elt F))
  | unary {Tx Ty : BufTy} (x : TRef sig Tx) (y : TRef sig Ty) (f : Tx.Contents (Elt F) → Ty.Contents (Elt F))
  | binary {Ta Tb Ty : BufTy} (a : TRef sig Ta) (b : TRef sig Tb) (y : TRef sig Ty)
      (f : Ta.Contents (Elt F) → Tb.Contents (Elt F) → Ty.Contents (Elt F))
  | ternary {Tc Ta Tb Ty : BufTy} (c : TRef sig Tc) (a : TRef sig Ta) (b : TRef sig Tb) (y : TRef sig Ty)
      (f : Tc.Contents (Elt F) → Ta.Contents (Elt F) → Tb.Contents (Elt F) → Ty.Contents (Elt F))
  | reshape {s t : Shape} {e : EltTy} (x : TRef sig ⟨s, e⟩) (y : TRef sig ⟨t, e⟩) (h : s.ShapeCasts t)

/-- The machine's operation. -/
noncomputable def Op.den : Op F → HloOp τ sig (Elt F)
  | .nullary y v => TRef.nullary y v
  | .unary x y f => TRef.unary x y f
  | .binary a b y f => TRef.binary a b y f
  | .ternary c a b y f => TRef.ternary c a b y f
  | .reshape x y h => TRef.reshape x y rfl h

/-- What the contents `W` hold in the buffer `x`. -/
def get (W : Valuation τ sig (Elt F)) {T : BufTy} (x : TRef sig T) : T.Contents (Elt F) := x.ofBuf (W (Proc.devRef .tc x.ref))

/-- The operation's equation, in the contents `W`: its result is its function of its operands. -/
def Op.Holds (W : Valuation τ sig (Elt F)) : Op F → Prop
  | .nullary y v => get W y = v
  | .unary x y f => get W y = f (get W x)
  | .binary a b y f => get W y = f (get W a) (get W b)
  | .ternary c a b y f => get W y = f (get W c) (get W a) (get W b)
  | .reshape (t := t) x y h => get W y = shapeCast t (get W x) h

/-- A buffer's number. -/
def num {T : BufTy} (x : TRef sig T) : Nat := x.ref.idx.val

/-- The number of the buffer that the operation writes. -/
def Op.out : Op F → Nat
  | .nullary y _ => num y
  | .unary _ y _ => num y
  | .binary _ _ y _ => num y
  | .ternary _ _ _ y _ => num y
  | .reshape _ y _ => num y

/-- The operation reads only buffers of numbers below `n`. -/
def Op.below (n : Nat) : Op F → Bool
  | .nullary _ _ => true
  | .unary x _ _ => Nat.blt (num x) n
  | .binary a b _ _ => Nat.blt (num a) n && Nat.blt (num b) n
  | .ternary c a b _ _ => Nat.blt (num c) n && (Nat.blt (num a) n && Nat.blt (num b) n)
  | .reshape x _ _ => Nat.blt (num x) n

/-- The operations write the buffers of numbers `n`, `n + 1`, …, in this order, each from buffers of smaller numbers. -/
def ok : Nat → List (Op F) → Bool
  | _, [] => true
  | n, op :: l => Nat.beq op.out n && (op.below n && ok (n + 1) l)

theorem ref_ne {T U : BufTy} {x : TRef sig T} {y : TRef sig U} (h : num x < num y) : x.ref ≠ y.ref :=
  fun e => absurd (congrArg (fun r : Ref sig .tc => r.idx.val) e) (Nat.ne_of_lt h)

/-- An operation leaves every buffer of another number alone. -/
theorem get_result (op : Op F) (V : Valuation τ sig (Elt F)) {T : BufTy} (x : TRef sig T) (h : num x < op.out) :
    get (op.den.result V) x = get V x := by
  unfold get
  refine congrArg x.ofBuf ?_
  cases op with
  | nullary y v => unfold Op.den; apply StableHlo.nullary_result_ne; exact ref_ne h
  | unary a y f => unfold Op.den; apply StableHlo.unary_result_ne; exact ref_ne h
  | binary a b y f => unfold Op.den; apply StableHlo.binary_result_ne; exact ref_ne h
  | ternary c a b y f => unfold Op.den; apply StableHlo.ternary_result_ne; exact ref_ne h
  | reshape a y hs => unfold Op.den; apply StableHlo.reshape_result_ne; exact ref_ne h

/-- A line leaves every buffer alone whose number is below those it writes. -/
theorem get_after (l : List (Op F)) : ∀ (n : Nat) (V : Valuation τ sig (Elt F)), ok n l = true →
    ∀ {T : BufTy} (x : TRef sig T), num x < n → get (after (l.map Op.den) V) x = get V x := by
  induction l with
  | nil => intro n V _ T x _; rfl
  | cons op l ih =>
    intro n V h T x hx
    simp only [ok, Bool.and_eq_true] at h
    have ho := Nat.eq_of_beq_eq_true h.1
    rw [List.map_cons, StableHlo.after_cons, ih (n + 1) _ h.2.2 x (Nat.lt_succ_of_lt hx)]
    exact get_result op V x (ho ▸ hx)

/-- A re-laying read through two equations of types is the re-laying at the types they give. -/
theorem cast_shapeCast {s t : Shape} {e : EltTy} {A B : BufTy} (hA : A = ⟨s, e⟩) (hB : B = ⟨t, e⟩) (v : A.Contents (Elt F))
    (he : A.elt = B.elt) (hn : A.shape.ShapeCasts B.shape) (h : s.ShapeCasts t) :
    cast (congrArg (fun U : BufTy => U.Contents (Elt F)) hB) (fun i => he ▸ shapeCast B.shape v hn i) =
      shapeCast t (cast (congrArg (fun U : BufTy => U.Contents (Elt F)) hA) v) h := by
  subst hA
  subst hB
  rfl

/-- Right after an operation its result is its function of what its operands held before. -/
theorem holds_of (op : Op F) (V W : Valuation τ sig (Elt F)) (n : Nat) (ho : op.out = n) (hb : op.below n = true)
    (hW : ∀ {T : BufTy} (x : TRef sig T), num x < n + 1 → get W x = get (op.den.result V) x) : op.Holds W := by
  have hV : ∀ {T : BufTy} (x : TRef sig T), Nat.blt (num x) n = true → get W x = get V x := fun x hx => by
    have hx' : num x < n := Nat.blt_eq.mp hx
    rw [hW x (Nat.lt_succ_of_lt hx'), get_result op V x (ho ▸ hx')]
  cases op with
  | nullary y v =>
    show get W y = v
    rw [hW y (by rw [← ho]; exact Nat.lt_succ_self _)]
    unfold get Op.den
    rw [StableHlo.nullary_result, TRef.ofBuf_toBuf]
  | unary x y f =>
    show get W y = f (get W x)
    rw [hW y (by rw [← ho]; exact Nat.lt_succ_self _), hV x hb]
    unfold get Op.den
    rw [StableHlo.unary_result, TRef.ofBuf_toBuf]
  | binary a b y f =>
    show get W y = f (get W a) (get W b)
    have hb' := (Bool.and_eq_true _ _).mp hb
    rw [hW y (by rw [← ho]; exact Nat.lt_succ_self _), hV a hb'.1, hV b hb'.2]
    unfold get Op.den
    rw [StableHlo.binary_result, TRef.ofBuf_toBuf]
  | ternary c a b y f =>
    show get W y = f (get W c) (get W a) (get W b)
    have hb' := (Bool.and_eq_true _ _).mp hb
    have hb'' := (Bool.and_eq_true _ _).mp hb'.2
    rw [hW y (by rw [← ho]; exact Nat.lt_succ_self _), hV c hb'.1, hV a hb''.1, hV b hb''.2]
    unfold get Op.den
    rw [StableHlo.ternary_result, TRef.ofBuf_toBuf]
  | reshape x y h =>
    show get W y = shapeCast _ (get W x) h
    rw [hW y (by rw [← ho]; exact Nat.lt_succ_self _), hV x hb]
    unfold get Op.den
    rw [StableHlo.reshape_result]
    exact cast_shapeCast x.ty_eq y.ty_eq _ _ _ h

/-- In the contents at the end of a line, the equation of each of its operations holds. -/
theorem holds_after (l : List (Op F)) : ∀ (n : Nat) (V : Valuation τ sig (Elt F)), ok n l = true →
    ∀ op ∈ l, op.Holds (after (l.map Op.den) V) := by
  induction l with
  | nil => intro n V _ op h; exact absurd h List.not_mem_nil
  | cons o l ih =>
    intro n V h op hop
    simp only [ok, Bool.and_eq_true] at h
    have ho := Nat.eq_of_beq_eq_true h.1
    rw [List.map_cons, StableHlo.after_cons]
    rcases List.mem_cons.mp hop with rfl | hop
    · exact holds_of op V _ n ho h.2.1 fun x hx => get_after l (n + 1) _ h.2.2 x hx
    · exact ih (n + 1) _ h.2.2 op hop

/-- An operation touches buffers of the core alone, -/
theorem bufs_sub (op : Op F) : op.den.bufs ⊆ StableHlo.tcRefs τ sig := by
  cases op with
  | nullary y v => unfold Op.den; apply StableHlo.nullary_bufs_sub
  | unary a y f => unfold Op.den; apply StableHlo.unary_bufs_sub
  | binary a b y f => unfold Op.den; apply StableHlo.binary_bufs_sub
  | ternary c a b y f => unfold Op.den; apply StableHlo.ternary_bufs_sub
  | reshape a y h => unfold Op.den; apply StableHlo.reshape_bufs_sub

/-- and determines its result. -/
theorem fresh_eq (op : Op F) : op.den.fresh = ∅ := by
  cases op <;> rfl

end Cert.ReferenceIdeal.Line

end
-- ==== Proof.ReferenceLine.lean ====
module

public import proofs.«01_k».proof.Proof.HostLine
public import Idealize.ShloMosaic.Lib.Pipeline.Regions

/-!
The reference's host operations, as a line.

`main` calls functions that make random bits by a block cipher (twenty rounds of add, rotate and exclusive-or, with a key
added in after every four), split a key into two, and draw integers from a range. Each piece is a list of operations over the
buffers it is given; `line` is `main` with its calls opened.
-/

@[expose] public section

noncomputable section

namespace Cert.ReferenceIdeal.Line

open Idealize.ShloMosaic Idealize.ShloMosaic.TcCoe Idealize.SL.Sem
open Idealize.ShloMosaic.StableHlo (TRef after)
open Cert.ReferenceIdeal Cert.ReferenceIdeal.Gen

variable {F : FTy → Type} [FloatOps F]

/-- A buffer of 32-bit words of shape `S`. -/
abbrev Words (S : Shape) : Type := TRef sig ⟨S, .i32⟩
/-- A buffer of 64-bit words of shape `S`. -/
abbrev Longs (S : Shape) : Type := TRef sig ⟨S, .i64⟩

/-- A buffer of booleans. -/
abbrev Bools (S : Shape) : Type := TRef sig ⟨S, .i1⟩

/-! ## The cipher -/

/-- The buffers of one round: the sum, the rotation's two shifts with their amounts, the rotated word, the mixed word. -/
structure Round (S : Shape) where
  s : Words S
  c : Words S_
  p : Words S
  q : Words S
  c' : Words S_
  p' : Words S
  q' : Words S
  o : Words S
  x : Words S

/-- The buffers of one key addition: the two key words laid out, the two sums, and the count added to the second. -/
structure Inject (S : Shape) where
  p : Words S
  a : Words S
  q : Words S
  u : Words S
  c : Words S_
  n : Words S
  b : Words S

/-- The buffers of four rounds and the key addition after them. -/
structure Group (S : Shape) where
  r₀ : Round S
  r₁ : Round S
  r₂ : Round S
  r₃ : Round S
  k : Inject S

/-- The buffers of the cipher: the third key word, the first key addition, and five groups of rounds. -/
structure Cipher (S : Shape) where
  w : Words S_
  c : Words S_
  k : Words S_
  p : Words S
  a : Words S
  q : Words S
  b : Words S
  g₀ : Group S
  g₁ : Group S
  g₂ : Group S
  g₃ : Group S
  g₄ : Group S

section Cipher

variable {S : Shape} (hb : S_.BroadcastsInDim S ![])

/-- One round on the pair of words `a`, `b`: their sum, and `b` rotated left by `r` mixed with the sum. -/
def roundL (r : Nat) (a b : Words S) (φ : Round S) : List (Op F) :=
  [ .binary a b φ.s addi,
    .nullary φ.c (constantI S_ 32 (BitVec.ofNat 32 r)),
    .unary φ.c φ.p (broadcastInDim S ![] hb),
    .binary b φ.p φ.q Host.shli,
    .nullary φ.c' (constantI S_ 32 (BitVec.ofNat 32 (32 - r))),
    .unary φ.c' φ.p' (broadcastInDim S ![] hb),
    .binary b φ.p' φ.q' Host.shrui,
    .binary φ.q φ.q' φ.o ori,
    .binary φ.s φ.o φ.x xori ]

/-- A key addition to the pair of words `a`, `b`: `k` to the first, `k'` and the count `n` to the second. -/
def injectL (n : Nat) (k k' : Words S_) (a b : Words S) (φ : Inject S) : List (Op F) :=
  [ .unary k φ.p (broadcastInDim S ![] hb),
    .binary a φ.p φ.a addi,
    .unary k' φ.q (broadcastInDim S ![] hb),
    .binary b φ.q φ.u addi,
    .nullary φ.c (constantI S_ 32 (BitVec.ofNat 32 n)),
    .unary φ.c φ.n (broadcastInDim S ![] hb),
    .binary φ.u φ.n φ.b addi ]

/-- Four rounds, rotating by `r₀`, `r₁`, `r₂`, `r₃`, and a key addition. -/
def groupL (r₀ r₁ r₂ r₃ n : Nat) (k k' : Words S_) (a b : Words S) (φ : Group S) : List (Op F) :=
  roundL hb r₀ a b φ.r₀ ++ (roundL hb r₁ φ.r₀.s φ.r₀.x φ.r₁ ++ (roundL hb r₂ φ.r₁.s φ.r₁.x φ.r₂ ++
    (roundL hb r₃ φ.r₂.s φ.r₂.x φ.r₃ ++ injectL hb n k k' φ.r₃.s φ.r₃.x φ.k)))

/-- The third key word, and the first key addition. -/
def startL (k k' : Words S_) (a b : Words S) (φ : Cipher S) : List (Op F) :=
  [ .binary k k' φ.w xori,
    .nullary φ.c (constantI S_ 32 466688986#32),
    .binary φ.w φ.c φ.k xori,
    .unary k φ.p (broadcastInDim S ![] hb),
    .binary a φ.p φ.a addi,
    .unary k' φ.q (broadcastInDim S ![] hb),
    .binary b φ.q φ.b addi ]

/-- The cipher on the pair of words `a`, `b`, under the key `k`, `k'`. -/
def cipherL (k k' : Words S_) (a b : Words S) (φ : Cipher S) : List (Op F) :=
  startL hb k k' a b φ ++
  (groupL hb 13 15 26 6 1 k' φ.k φ.a φ.b φ.g₀ ++
  (groupL hb 17 29 16 24 2 φ.k k φ.g₀.k.a φ.g₀.k.b φ.g₁ ++
  (groupL hb 13 15 26 6 3 k k' φ.g₁.k.a φ.g₁.k.b φ.g₂ ++
  (groupL hb 17 29 16 24 4 k' φ.k φ.g₂.k.a φ.g₂.k.b φ.g₃ ++
   groupL hb 13 15 26 6 5 φ.k k φ.g₃.k.a φ.g₃.k.b φ.g₄))))

end Cipher

/-- The cipher's buffers in one call on two pairs of words, -/
def cipher2 (φ : fn_threefry2x32.Bufs) : Cipher S2 where
  w := φ.v0
  c := φ.c
  k := φ.v1
  p := φ.v2
  a := φ.v3
  q := φ.v4
  b := φ.v5
  g₀ := ⟨⟨φ.v6, φ.c_0, φ.v7, φ.v8, φ.c_1, φ.v9, φ.v10, φ.v11, φ.v12⟩,
    ⟨φ.v13, φ.c_2, φ.v14, φ.v15, φ.c_3, φ.v16, φ.v17, φ.v18, φ.v19⟩,
    ⟨φ.v20, φ.c_4, φ.v21, φ.v22, φ.c_5, φ.v23, φ.v24, φ.v25, φ.v26⟩,
    ⟨φ.v27, φ.c_6, φ.v28, φ.v29, φ.c_7, φ.v30, φ.v31, φ.v32, φ.v33⟩,
    ⟨φ.v34, φ.v35, φ.v36, φ.v37, φ.c_8, φ.v38, φ.v39⟩⟩
  g₁ := ⟨⟨φ.v40, φ.c_9, φ.v41, φ.v42, φ.c_10, φ.v43, φ.v44, φ.v45, φ.v46⟩,
    ⟨φ.v47, φ.c_11, φ.v48, φ.v49, φ.c_12, φ.v50, φ.v51, φ.v52, φ.v53⟩,
    ⟨φ.v54, φ.c_13, φ.v55, φ.v56, φ.c_14, φ.v57, φ.v58, φ.v59, φ.v60⟩,
    ⟨φ.v61, φ.c_15, φ.v62, φ.v63, φ.c_16, φ.v64, φ.v65, φ.v66, φ.v67⟩,
    ⟨φ.v68, φ.v69, φ.v70, φ.v71, φ.c_17, φ.v72, φ.v73⟩⟩
  g₂ := ⟨⟨φ.v74, φ.c_18, φ.v75, φ.v76, φ.c_19, φ.v77, φ.v78, φ.v79, φ.v80⟩,
    ⟨φ.v81, φ.c_20, φ.v82, φ.v83, φ.c_21, φ.v84, φ.v85, φ.v86, φ.v87⟩,
    ⟨φ.v88, φ.c_22, φ.v89, φ.v90, φ.c_23, φ.v91, φ.v92, φ.v93, φ.v94⟩,
    ⟨φ.v95, φ.c_24, φ.v96, φ.v97, φ.c_25, φ.v98, φ.v99, φ.v100, φ.v101⟩,
    ⟨φ.v102, φ.v103, φ.v104, φ.v105, φ.c_26, φ.v106, φ.v107⟩⟩
  g₃ := ⟨⟨φ.v108, φ.c_27, φ.v109, φ.v110, φ.c_28, φ.v111, φ.v112, φ.v113, φ.v114⟩,
    ⟨φ.v115, φ.c_29, φ.v116, φ.v117, φ.c_30, φ.v118, φ.v119, φ.v120, φ.v121⟩,
    ⟨φ.v122, φ.c_31, φ.v123, φ.v124, φ.c_32, φ.v125, φ.v126, φ.v127, φ.v128⟩,
    ⟨φ.v129, φ.c_33, φ.v130, φ.v131, φ.c_34, φ.v132, φ.v133, φ.v134, φ.v135⟩,
    ⟨φ.v136, φ.v137, φ.v138, φ.v139, φ.c_35, φ.v140, φ.v141⟩⟩
  g₄ := ⟨⟨φ.v142, φ.c_36, φ.v143, φ.v144, φ.c_37, φ.v145, φ.v146, φ.v147, φ.v148⟩,
    ⟨φ.v149, φ.c_38, φ.v150, φ.v151, φ.c_39, φ.v152, φ.v153, φ.v154, φ.v155⟩,
    ⟨φ.v156, φ.c_40, φ.v157, φ.v158, φ.c_41, φ.v159, φ.v160, φ.v161, φ.v162⟩,
    ⟨φ.v163, φ.c_42, φ.v164, φ.v165, φ.c_43, φ.v166, φ.v167, φ.v168, φ.v169⟩,
    ⟨φ.v170, φ.v171, φ.v172, φ.v173, φ.c_44, φ.v174, φ.v175⟩⟩

/-- and in one call on 128 pairs. -/
def cipher128 (φ : fn_threefry2x32_2.Bufs) : Cipher S128 where
  w := φ.v0
  c := φ.c
  k := φ.v1
  p := φ.v2
  a := φ.v3
  q := φ.v4
  b := φ.v5
  g₀ := ⟨⟨φ.v6, φ.c_0, φ.v7, φ.v8, φ.c_1, φ.v9, φ.v10, φ.v11, φ.v12⟩,
    ⟨φ.v13, φ.c_2, φ.v14, φ.v15, φ.c_3, φ.v16, φ.v17, φ.v18, φ.v19⟩,
    ⟨φ.v20, φ.c_4, φ.v21, φ.v22, φ.c_5, φ.v23, φ.v24, φ.v25, φ.v26⟩,
    ⟨φ.v27, φ.c_6, φ.v28, φ.v29, φ.c_7, φ.v30, φ.v31, φ.v32, φ.v33⟩,
    ⟨φ.v34, φ.v35, φ.v36, φ.v37, φ.c_8, φ.v38, φ.v39⟩⟩
  g₁ := ⟨⟨φ.v40, φ.c_9, φ.v41, φ.v42, φ.c_10, φ.v43, φ.v44, φ.v45, φ.v46⟩,
    ⟨φ.v47, φ.c_11, φ.v48, φ.v49, φ.c_12, φ.v50, φ.v51, φ.v52, φ.v53⟩,
    ⟨φ.v54, φ.c_13, φ.v55, φ.v56, φ.c_14, φ.v57, φ.v58, φ.v59, φ.v60⟩,
    ⟨φ.v61, φ.c_15, φ.v62, φ.v63, φ.c_16, φ.v64, φ.v65, φ.v66, φ.v67⟩,
    ⟨φ.v68, φ.v69, φ.v70, φ.v71, φ.c_17, φ.v72, φ.v73⟩⟩
  g₂ := ⟨⟨φ.v74, φ.c_18, φ.v75, φ.v76, φ.c_19, φ.v77, φ.v78, φ.v79, φ.v80⟩,
    ⟨φ.v81, φ.c_20, φ.v82, φ.v83, φ.c_21, φ.v84, φ.v85, φ.v86, φ.v87⟩,
    ⟨φ.v88, φ.c_22, φ.v89, φ.v90, φ.c_23, φ.v91, φ.v92, φ.v93, φ.v94⟩,
    ⟨φ.v95, φ.c_24, φ.v96, φ.v97, φ.c_25, φ.v98, φ.v99, φ.v100, φ.v101⟩,
    ⟨φ.v102, φ.v103, φ.v104, φ.v105, φ.c_26, φ.v106, φ.v107⟩⟩
  g₃ := ⟨⟨φ.v108, φ.c_27, φ.v109, φ.v110, φ.c_28, φ.v111, φ.v112, φ.v113, φ.v114⟩,
    ⟨φ.v115, φ.c_29, φ.v116, φ.v117, φ.c_30, φ.v118, φ.v119, φ.v120, φ.v121⟩,
    ⟨φ.v122, φ.c_31, φ.v123, φ.v124, φ.c_32, φ.v125, φ.v126, φ.v127, φ.v128⟩,
    ⟨φ.v129, φ.c_33, φ.v130, φ.v131, φ.c_34, φ.v132, φ.v133, φ.v134, φ.v135⟩,
    ⟨φ.v136, φ.v137, φ.v138, φ.v139, φ.c_35, φ.v140, φ.v141⟩⟩
  g₄ := ⟨⟨φ.v142, φ.c_36, φ.v143, φ.v144, φ.c_37, φ.v145, φ.v146, φ.v147, φ.v148⟩,
    ⟨φ.v149, φ.c_38, φ.v150, φ.v151, φ.c_39, φ.v152, φ.v153, φ.v154, φ.v155⟩,
    ⟨φ.v156, φ.c_40, φ.v157, φ.v158, φ.c_41, φ.v159, φ.v160, φ.v161, φ.v162⟩,
    ⟨φ.v163, φ.c_42, φ.v164, φ.v165, φ.c_43, φ.v166, φ.v167, φ.v168, φ.v169⟩,
    ⟨φ.v170, φ.v171, φ.v172, φ.v173, φ.c_44, φ.v174, φ.v175⟩⟩

/-! ## Keys and bits -/

/-- The buffers of the two words of a key, each cut out and made a scalar. -/
structure Key where
  s₀ : Words S1
  k₀ : Words S_
  s₁ : Words S1
  k₁ : Words S_

/-- The two words of a key. -/
def keyL (key : Words S2) (φ : Key) : List (Op F) :=
  [ .unary key φ.s₀ (extractStridedSlice S1 ![0] · slices_S2_S1_0),
    .reshape φ.s₀ φ.k₀ shapeCasts_S1_S_,
    .unary key φ.s₁ (extractStridedSlice S1 ![1] · slices_S2_S1_1),
    .reshape φ.s₁ φ.k₁ shapeCasts_S1_S_ ]

/-- The buffers of two keys cut out of a pair of keys. -/
structure Rows where
  s₀ : Words S1x2
  k₀ : Words S2
  s₁ : Words S1x2
  k₁ : Words S2

/-- The two keys of a pair of keys. -/
def rowsL (keys : Words S2x2) (φ : Rows) : List (Op F) :=
  [ .unary keys φ.s₀ (extractStridedSlice S1x2 ![0, 0] · slices_S2x2_S1x2_0_0),
    .reshape φ.s₀ φ.k₀ shapeCasts_S1x2_S2,
    .unary keys φ.s₁ (extractStridedSlice S1x2 ![1, 0] · slices_S2x2_S1x2_1_0),
    .reshape φ.s₁ φ.k₁ shapeCasts_S1x2_S2 ]

/-- The buffers of the 64-bit counters 0, 1, 2, … and their low and high words. -/
structure Count (S : Shape) where
  i : Longs S
  c : Longs S_
  u : Longs S
  v : Longs S
  c' : Longs S_
  w : Longs S
  x : Longs S
  lo : Words S
  hi : Words S

/-- The `n` counters, as low and high words. -/
def countL {n : Nat} (hb : S_.BroadcastsInDim ⟨1, ![n]⟩ ![]) (φ : Count ⟨1, ![n]⟩) : List (Op F) :=
  [ .nullary φ.i (iotaInDim ⟨1, ![n]⟩ 64 0),
    .nullary φ.c (constantI S_ 64 1#64),
    .unary φ.c φ.u (broadcastInDim ⟨1, ![n]⟩ ![] hb),
    .binary φ.u φ.i φ.v muli,
    .nullary φ.c' (constantI S_ 64 32#64),
    .unary φ.c' φ.w (broadcastInDim ⟨1, ![n]⟩ ![] hb),
    .binary φ.v φ.w φ.x Host.shrui,
    .unary φ.v φ.lo (trunci 32 · natLt_32_64),
    .unary φ.x φ.hi (trunci 32 · natLt_32_64) ]

/-- The buffers of a split of a key into two. -/
structure Split where
  key : Key
  count : Count S2
  enc : Cipher S2
  c₀ : Words S2x1
  c₁ : Words S2x1
  keys : Words S2x2

/-- Two keys out of one: the ciphers of the counters 0 and 1. -/
def splitL (key : Words S2) (φ : Split) : List (Op F) :=
  keyL key φ.key ++ (countL bcast_S_S2 φ.count ++
  (cipherL bcast_S_S2 φ.key.k₀ φ.key.k₁ φ.count.hi φ.count.lo φ.enc ++
  [ .unary φ.enc.g₄.k.a φ.c₀ (broadcastInDim S2x1 ![0] bcast_S2_S2x1_0),
    .unary φ.enc.g₄.k.b φ.c₁ (broadcastInDim S2x1 ![0] bcast_S2_S2x1_0),
    .binary φ.c₀ φ.c₁ φ.keys (fun a b => concatenate S2x2 1 [⟨S2x1, a⟩, ⟨S2x1, b⟩] concatenates_S2x1_S2x1_S2x2_d1) ]))

/-- The buffers of 128 random words. -/
structure Bits where
  key : Key
  count : Count S128
  enc : Cipher S128
  out : Words S128

/-- 128 random words out of a key: the ciphers of the counters, their two words mixed. -/
def bitsL (key : Words S2) (φ : Bits) : List (Op F) :=
  keyL key φ.key ++ (countL bcast_S_S128 φ.count ++
  (cipherL bcast_S_S128 φ.key.k₀ φ.key.k₁ φ.count.hi φ.count.lo φ.enc ++
  [ .binary φ.enc.g₄.k.a φ.enc.g₄.k.b φ.out xori ]))

/-! ## Integers from a range -/

/-- A scalar `x`, held between `lo` and `hi`. -/
def clipL (x lo hi v w : Words S_) : List (Op F) :=
  [ .binary lo x v maxsi,
    .binary hi v w minsi ]

/-- The buffers of a split, in one call, -/
def split0 (φ : fn_threefry_split.Bufs) : Split where
  key := ⟨φ.v0, φ.v1, φ.v2, φ.v3⟩
  count := ⟨φ.v4, φ.c, φ.v5, φ.v6, φ.c_0, φ.v7, φ.v8, φ.v9, φ.v10⟩
  enc := cipher2 φ.call0
  c₀ := φ.v12
  c₁ := φ.v13
  keys := φ.v14

/-- and in one call inside a draw. -/
def split1 (φ : fn_threefry_split_1.Bufs) : Split where
  key := ⟨φ.v0, φ.v1, φ.v2, φ.v3⟩
  count := ⟨φ.v4, φ.c, φ.v5, φ.v6, φ.c_0, φ.v7, φ.v8, φ.v9, φ.v10⟩
  enc := cipher2 φ.call0
  c₀ := φ.v12
  c₁ := φ.v13
  keys := φ.v14

/-- 128 integers from the scalar `arg1` up to but not the scalar `arg2`, out of a key. -/
def drawL (arg0 : Words S2) (arg1 arg2 : Words S_) (φ : fn_randint.Bufs) : List (Op F) :=
  [ .nullary φ.c (constantI S_ 32 2147483647#32),
    .nullary φ.c_0 (constantI S_ 32 2147483648#32),
    .nullary φ.c_1 (constantI S_ 32 2147483647#32) ] ++
  (clipL φ.c φ.c_0 φ.c_1 φ.call0.v0 φ.call0.v1 ++
  ([ .binary arg2 φ.call0.v1 φ.v1 (cmpi .sgt),
    .nullary φ.c_2 (constantI S_ 32 2147483648#32),
    .nullary φ.c_3 (constantI S_ 32 2147483647#32) ] ++
  (clipL arg1 φ.c_2 φ.c_3 φ.call1.v0 φ.call1.v1 ++
  ([ .unary φ.call1.v1 φ.v3 id,
    .nullary φ.c_4 (constantI S_ 32 2147483648#32),
    .nullary φ.c_5 (constantI S_ 32 2147483647#32) ] ++
  (clipL arg2 φ.c_4 φ.c_5 φ.call2.v0 φ.call2.v1 ++
  ([ .unary φ.call2.v1 φ.v5 id,
    .unary φ.v3 φ.v6 (broadcastInDim S1 ![] bcast_S_S1),
    .unary φ.v5 φ.v7 (broadcastInDim S1 ![] bcast_S_S1) ] ++
  (splitL arg0 (split1 φ.call3) ++
  (rowsL φ.call3.v14 ⟨φ.v9, φ.v10, φ.v11, φ.v12⟩ ++
  (bitsL φ.v10 ⟨⟨φ.v13, φ.v14, φ.v15, φ.v16⟩, ⟨φ.v17, φ.c_6, φ.v18, φ.v19, φ.c_7, φ.v20, φ.v21, φ.v22, φ.v23⟩, cipher128 φ.call4, φ.v25⟩ ++
  (bitsL φ.v12 ⟨⟨φ.v26, φ.v27, φ.v28, φ.v29⟩, ⟨φ.v30, φ.c_8, φ.v31, φ.v32, φ.c_9, φ.v33, φ.v34, φ.v35, φ.v36⟩, cipher128 φ.call5, φ.v38⟩ ++
  ([ .binary φ.v7 φ.v6 φ.v39 subi,
    .unary φ.v39 φ.v40 id,
    .binary φ.v7 φ.v6 φ.v41 (cmpi .sle),
    .nullary φ.c_10 (constantI S_ 32 1#32),
    .unary φ.c_10 φ.v42 (broadcastInDim S1 ![] bcast_S_S1),
    .ternary φ.v41 φ.v42 φ.v40 φ.v43 select,
    .binary φ.v7 φ.v6 φ.v44 (cmpi .sgt),
    .unary φ.v1 φ.v45 (broadcastInDim S1 ![] bcast_S_S1),
    .binary φ.v45 φ.v44 φ.v46 andi,
    .nullary φ.c_11 (constantI S_ 32 1#32),
    .unary φ.c_11 φ.v47 (broadcastInDim S1 ![] bcast_S_S1),
    .binary φ.v43 φ.v47 φ.v48 addi,
    .ternary φ.v46 φ.v48 φ.v43 φ.v49 select,
    .nullary φ.c_12 (constantI S_ 32 65536#32),
    .unary φ.c_12 φ.v50 (broadcastInDim S1 ![] bcast_S_S1),
    .binary φ.v50 φ.v49 φ.v51 Host.remui,
    .binary φ.v51 φ.v51 φ.v52 muli,
    .binary φ.v52 φ.v49 φ.v53 Host.remui,
    .unary φ.v49 φ.v54 (broadcastInDim S128 ![0] bcast_S1_S128_0),
    .binary φ.v25 φ.v54 φ.v55 Host.remui,
    .unary φ.v53 φ.v56 (broadcastInDim S128 ![0] bcast_S1_S128_0),
    .binary φ.v55 φ.v56 φ.v57 muli,
    .unary φ.v49 φ.v58 (broadcastInDim S128 ![0] bcast_S1_S128_0),
    .binary φ.v38 φ.v58 φ.v59 Host.remui,
    .binary φ.v57 φ.v59 φ.v60 addi,
    .unary φ.v49 φ.v61 (broadcastInDim S128 ![0] bcast_S1_S128_0),
    .binary φ.v60 φ.v61 φ.v62 Host.remui,
    .unary φ.v62 φ.v63 id,
    .unary φ.v6 φ.v64 (broadcastInDim S128 ![0] bcast_S1_S128_0),
    .binary φ.v64 φ.v63 φ.v65 addi ])))))))))))

/-- 128 integers, each from the scalar `arg1` up to but not its own bound in `arg2`, out of a key. -/
def drawsL (arg0 : Words S2) (arg1 : Words S_) (arg2 : Words S128) (φ : fn_randint_3.Bufs) : List (Op F) :=
  [ .nullary φ.c (constantI S_ 32 2147483647#32),
    .nullary φ.c_0 (constantI S_ 32 2147483648#32),
    .nullary φ.c_1 (constantI S_ 32 2147483647#32) ] ++
  (clipL φ.c φ.c_0 φ.c_1 φ.call0.v0 φ.call0.v1 ++
  ([ .unary φ.call0.v1 φ.v1 (broadcastInDim S128 ![] bcast_S_S128),
    .binary arg2 φ.v1 φ.v2 (cmpi .sgt),
    .nullary φ.c_2 (constantI S_ 32 2147483648#32),
    .nullary φ.c_3 (constantI S_ 32 2147483647#32) ] ++
  (clipL arg1 φ.c_2 φ.c_3 φ.call1.v0 φ.call1.v1 ++
  ([ .unary φ.call1.v1 φ.v4 id,
    .nullary φ.c_4 (constantI S_ 32 2147483648#32),
    .nullary φ.c_5 (constantI S_ 32 2147483647#32) ] ++
  ([ .unary φ.c_4 φ.call2.v0 (broadcastInDim S128 ![] bcast_S_S128),
    .binary φ.call2.v0 arg2 φ.call2.v1 maxsi,
    .unary φ.c_5 φ.call2.v2 (broadcastInDim S128 ![] bcast_S_S128),
    .binary φ.call2.v2 φ.call2.v1 φ.call2.v3 minsi ] ++
  ([ .unary φ.v4 φ.v6 (broadcastInDim S1 ![] bcast_S_S1) ] ++
  (splitL arg0 (split1 φ.call3) ++
  (rowsL φ.call3.v14 ⟨φ.v8, φ.v9, φ.v10, φ.v11⟩ ++
  (bitsL φ.v9 ⟨⟨φ.v12, φ.v13, φ.v14, φ.v15⟩, ⟨φ.v16, φ.c_6, φ.v17, φ.v18, φ.c_7, φ.v19, φ.v20, φ.v21, φ.v22⟩, cipher128 φ.call4, φ.v24⟩ ++
  (bitsL φ.v11 ⟨⟨φ.v25, φ.v26, φ.v27, φ.v28⟩, ⟨φ.v29, φ.c_8, φ.v30, φ.v31, φ.c_9, φ.v32, φ.v33, φ.v34, φ.v35⟩, cipher128 φ.call5, φ.v37⟩ ++
  ([ .unary φ.v6 φ.v38 (broadcastInDim S128 ![0] bcast_S1_S128_0),
    .binary φ.call2.v3 φ.v38 φ.v39 subi,
    .unary φ.v39 φ.v40 id,
    .unary φ.v6 φ.v41 (broadcastInDim S128 ![0] bcast_S1_S128_0),
    .binary φ.call2.v3 φ.v41 φ.v42 (cmpi .sle),
    .nullary φ.c_10 (constantI S_ 32 1#32),
    .unary φ.c_10 φ.v43 (broadcastInDim S128 ![] bcast_S_S128),
    .ternary φ.v42 φ.v43 φ.v40 φ.v44 select,
    .unary φ.v6 φ.v45 (broadcastInDim S128 ![0] bcast_S1_S128_0),
    .binary φ.call2.v3 φ.v45 φ.v46 (cmpi .sgt),
    .binary φ.v2 φ.v46 φ.v47 andi,
    .nullary φ.c_11 (constantI S_ 32 1#32),
    .unary φ.c_11 φ.v48 (broadcastInDim S128 ![] bcast_S_S128),
    .binary φ.v44 φ.v48 φ.v49 addi,
    .ternary φ.v47 φ.v49 φ.v44 φ.v50 select,
    .nullary φ.c_12 (constantI S_ 32 65536#32),
    .unary φ.c_12 φ.v51 (broadcastInDim S128 ![] bcast_S_S128),
    .binary φ.v51 φ.v50 φ.v52 Host.remui,
    .binary φ.v52 φ.v52 φ.v53 muli,
    .binary φ.v53 φ.v50 φ.v54 Host.remui,
    .binary φ.v24 φ.v50 φ.v55 Host.remui,
    .binary φ.v55 φ.v54 φ.v56 muli,
    .binary φ.v37 φ.v50 φ.v57 Host.remui,
    .binary φ.v56 φ.v57 φ.v58 addi,
    .binary φ.v58 φ.v50 φ.v59 Host.remui,
    .unary φ.v59 φ.v60 id,
    .unary φ.v6 φ.v61 (broadcastInDim S128 ![0] bcast_S1_S128_0),
    .binary φ.v61 φ.v60 φ.v62 addi ])))))))))))

/-! ## The whole line -/

/-- The buffers of the mask. -/
structure Mask where
  v16 : Words S128
  v17 : Words S1x128
  v18 : Words S128x1
  v19 : Words S128x128
  v20 : Words S128x128
  v21 : Bools S128x128
  v22 : Words S1x128
  v23 : Words S128
  v24 : Words S128x1
  v25 : Words S128x128
  v26 : Words S128x128
  v27 : Bools S128x128
  v28 : Bools S128x128
  v29 : Bools S128x128x1

/-- The mask: batch `b` and row `r` are marked when `f₀ b ≤ r < f₀ b + f b`. -/
def maskL (f f₀ : Words S128) (φ : Mask) : List (Op F) :=
  [ .nullary φ.v16 (iotaInDim S128 32 0),
    .unary φ.v16 φ.v17 (broadcastInDim S1x128 ![1] bcast_S128_S1x128_1),
    .unary f₀ φ.v18 (broadcastInDim S128x1 ![0] bcast_S128_S128x1_0),
    .unary φ.v17 φ.v19 (broadcastInDim S128x128 ![0, 1] bcast_S1x128_S128x128_0_1),
    .unary φ.v18 φ.v20 (broadcastInDim S128x128 ![0, 1] bcast_S128x1_S128x128_0_1),
    .binary φ.v19 φ.v20 φ.v21 (cmpi .sge),
    .unary φ.v16 φ.v22 (broadcastInDim S1x128 ![1] bcast_S128_S1x128_1),
    .binary f₀ f φ.v23 addi,
    .unary φ.v23 φ.v24 (broadcastInDim S128x1 ![0] bcast_S128_S128x1_0),
    .unary φ.v22 φ.v25 (broadcastInDim S128x128 ![0, 1] bcast_S1x128_S128x128_0_1),
    .unary φ.v24 φ.v26 (broadcastInDim S128x128 ![0, 1] bcast_S128x1_S128x128_0_1),
    .binary φ.v25 φ.v26 φ.v27 (cmpi .slt),
    .binary φ.v21 φ.v27 φ.v28 andi,
    .unary φ.v28 φ.v29 (broadcastInDim S128x128x1 ![0, 1] bcast_S128x128_S128x128x1_0_1) ]

/-- The array `arg2`, but the scalar `arg1` in the rows that `arg0` marks. -/
def whereL (arg0 : Bools S128x128x1) (arg1 : TRef sig ⟨S_, .f32⟩) (arg2 : TRef sig ⟨S128x128x3000, .f32⟩)
    (φ : fn_where.Bufs) : List (Op F) :=
  [ .unary arg0 φ.v0 (broadcastInDim S128x128x3000 ![0, 1, 2] bcast_S128x128x1_S128x128x3000_0_1_2),
    .unary arg1 φ.v1 (broadcastInDim S128x128x3000 ![] bcast_S_S128x128x3000),
    .ternary φ.v0 φ.v1 arg2 φ.v2 select ]

/-- The reference's operations, its calls opened. -/
def line : List (Op F) :=
  [ .nullary (.of main_c) (constantI S_ 32 42#32),
    .nullary (.of main_c_0) (constantI S_ 32 32#32),
    .binary (.of main_c) (.of main_c_0) (.of main_v0) (Host.shrui),
    .unary (.of main_v0) (.of main_v1) (id),
    .unary (.of main_v1) (.of main_v2) (broadcastInDim S1 ![] bcast_S_S1),
    .nullary (.of main_c_1) (constantI S_ 32 4294967295#32),
    .binary (.of main_c) (.of main_c_1) (.of main_v3) andi,
    .unary (.of main_v3) (.of main_v4) (id),
    .unary (.of main_v4) (.of main_v5) (broadcastInDim S1 ![] bcast_S_S1),
    .binary (.of main_v2) (.of main_v5) (.of main_v6) ((fun a b => concatenate S2 0 [⟨S1, a⟩, ⟨S1, b⟩] concatenates_S1_S1_S2_d0)) ] ++
  (splitL (.of main_v6) (split0 main_call0) ++
  (rowsL (.of main_v7) ⟨.of main_v8, .of main_v9, .of main_v10, .of main_v11⟩ ++
  ([ .nullary (.of main_c_2) (constantI S_ 32 0#32),
    .nullary (.of main_c_3) (constantI S_ 32 27#32) ] ++
  (drawL (.of main_v9) (.of main_c_2) (.of main_c_3) main_call1 ++
  ([ .nullary (.of main_c_4) (constantI S_ 32 128#32),
    .unary (.of main_c_4) (.of main_v13) (broadcastInDim S128 ![] bcast_S_S128),
    .binary (.of main_v13) (.of main_v12) (.of main_v14) (subi),
    .nullary (.of main_c_5) (constantI S_ 32 0#32) ] ++
  (drawsL (.of main_v11) (.of main_c_5) (.of main_v14) main_call2 ++
  (maskL (.of main_v12) (.of main_v15) ⟨.of main_v16, .of main_v17, .of main_v18, .of main_v19, .of main_v20, .of main_v21, .of main_v22, .of main_v23, .of main_v24, .of main_v25, .of main_v26, .of main_v27, .of main_v28, .of main_v29⟩ ++
  ([ .nullary (.of main_cst) (constant S_ .f32 0x00000000#32) ] ++
  whereL (.of main_v29) (.of main_cst) (.of main_arg0) main_call3))))))))

/-- The reference is its line. -/
theorem main_eq (d : Dev nD) : main (F := F) d = StableHlo.seq (line.map Op.den) := by
  chain_rfl

/-- Each of the line's operations writes the next buffer, from buffers before it. -/
theorem ok_line : ok 1 (line : List (Op F)) = true := by
  chain_rfl

end Cert.ReferenceIdeal.Line

end
-- ==== Proof.ReferenceBits.lean ====
module

public import proofs.«01_k».proof.Proof.ReferenceLine
public import proofs.«01_k».proof.Proof.Draws
public import Idealize.ShloMosaic.Lib.Pipeline.ValueKit
public import Idealize.ShloMosaic.Lib.Pointwise

/-!
What the equations of the reference's line say of its random bits.

`All W l` says that in the contents `W` every operation of the line `l` has its equation. From the equations of the
cipher, of a split and of a draw of bits, their results are read off: at every index they are the functions of
`Draws` of what their arguments hold.
-/

@[expose] public section

noncomputable section

namespace Cert.ReferenceIdeal.Line

open Idealize.ShloMosaic Idealize.ShloMosaic.TcCoe Idealize.SL.Sem
open Idealize.ShloMosaic.StableHlo (TRef after)
open Cert.ReferenceIdeal Cert.ReferenceIdeal.Gen Cert.ReferenceIdeal.Draws

variable {F : FTy → Type} [FloatOps F] {W : Valuation τ sig (Elt F)}

/-- In the contents `W`, every operation of the line has its equation. -/
def All (W : Valuation τ sig (Elt F)) : List (Op F) → Prop
  | [] => True
  | op :: l => op.Holds W ∧ All W l

theorem all_of {l : List (Op F)} (h : ∀ op ∈ l, op.Holds W) : All W l := by
  induction l with
  | nil => trivial
  | cons op l ih => exact ⟨h op List.mem_cons_self, ih fun o ho => h o (List.mem_cons_of_mem _ ho)⟩

theorem all_append {l l' : List (Op F)} : All W (l ++ l') ↔ All W l ∧ All W l' := by
  induction l with
  | nil => exact ⟨fun h => ⟨trivial, h⟩, fun h => h.2⟩
  | cons op l ih => exact ⟨fun h => ⟨⟨h.1, (ih.mp h.2).1⟩, (ih.mp h.2).2⟩, fun h => ⟨h.1.1, ih.mpr ⟨h.1.2, h.2⟩⟩⟩

/-- The word at an index of a buffer. -/
def val (W : Valuation τ sig (Elt F)) {S : Shape} (x : Words S) (i : S.Idx) : Word := get W x i

/-- The one index of a scalar. -/
def ix0 : S_.Idx := fun a => a.elim0

/-- The word of a scalar buffer. -/
def word (W : Valuation τ sig (Elt F)) (x : Words S_) : Word := val W x ix0

/-- The words at an index of two buffers. -/
def pair (W : Valuation τ sig (Elt F)) {S : Shape} (a b : Words S) (i : S.Idx) : Word × Word := (val W a i, val W b i)

/-- The two words of a key. -/
def key (W : Valuation τ sig (Elt F)) (x : Words S2) : Word × Word := (val W x (ix1 (0 : Fin 2)), val W x (ix1 (1 : Fin 2)))

/-- A scalar laid out over a shape is the scalar at every index. -/
theorem bcast_at {α : Type} {S : Shape} (hb : S_.BroadcastsInDim S ![]) (x : S_.Idx → α) (i : S.Idx) :
    broadcastInDim S ![] hb x i = x ix0 :=
  broadcastInDim_apply _ hb x i ix0 fun a => a.elim0

section Cipher

variable {S : Shape} {hb : S_.BroadcastsInDim S ![]}

theorem round_at {r : Nat} {a b : Words S} {φ : Round S} (h : All W (roundL hb r a b φ)) (i : S.Idx) :
    pair W φ.s φ.x i = round r (pair W a b i) := by
  simp only [All, Op.Holds, roundL] at h
  obtain ⟨h₁, h₂, h₃, h₄, h₅, h₆, h₇, h₈, h₉, -⟩ := h
  unfold pair val
  rw [h₉, h₈, h₇, h₆, h₅, h₄, h₃, h₂, h₁]
  rfl

theorem inject_at {n : Nat} {k k' : Words S_} {a b : Words S} {φ : Inject S} (h : All W (injectL hb n k k' a b φ))
    (i : S.Idx) : pair W φ.a φ.b i = inject n (word W k) (word W k') (pair W a b i) := by
  simp only [All, Op.Holds, injectL] at h
  obtain ⟨h₁, h₂, h₃, h₄, h₅, h₆, h₇, -⟩ := h
  unfold pair val
  rw [h₇, h₆, h₅, h₄, h₃, h₂, h₁]
  exact congrArg₂ (fun u v => (IntOp.addi (val W a i) u, IntOp.addi (IntOp.addi (val W b i) v) (BitVec.ofNat 32 n)))
    (bcast_at hb (get W k) i) (bcast_at hb (get W k') i)

theorem group_at {r₀ r₁ r₂ r₃ n : Nat} {k k' : Words S_} {a b : Words S} {φ : Group S}
    (h : All W (groupL hb r₀ r₁ r₂ r₃ n k k' a b φ)) (i : S.Idx) :
    pair W φ.k.a φ.k.b i = group r₀ r₁ r₂ r₃ n (word W k) (word W k') (pair W a b i) := by
  simp only [groupL, all_append] at h
  obtain ⟨h₀, h₁, h₂, h₃, h₄⟩ := h
  rw [inject_at h₄ i, round_at h₃ i, round_at h₂ i, round_at h₁ i, round_at h₀ i]
  rfl

theorem start_at {k k' : Words S_} {a b : Words S} {φ : Cipher S} (h : All W (startL hb k k' a b φ)) (i : S.Idx) :
    word W φ.k = third (word W k) (word W k') ∧
      pair W φ.a φ.b i = (IntOp.addi (val W a i) (word W k), IntOp.addi (val W b i) (word W k')) := by
  simp only [All, Op.Holds, startL] at h
  obtain ⟨h₁, h₂, h₃, h₄, h₅, h₆, h₇, -⟩ := h
  refine ⟨?_, ?_⟩
  · unfold word val
    rw [h₃, h₂, h₁]
    rfl
  · unfold pair val
    rw [h₇, h₆, h₅, h₄]
    exact congrArg₂ (fun u v => (IntOp.addi (val W a i) u, IntOp.addi (val W b i) v))
      (bcast_at hb (get W k) i) (bcast_at hb (get W k') i)

/-- The cipher's results at an index are the cipher of its arguments there. -/
theorem cipher_at {k k' : Words S_} {a b : Words S} {φ : Cipher S} (h : All W (cipherL hb k k' a b φ)) (i : S.Idx) :
    pair W φ.g₄.k.a φ.g₄.k.b i = threefry (word W k) (word W k') (val W a i) (val W b i) := by
  simp only [cipherL, all_append] at h
  obtain ⟨hs, h₀, h₁, h₂, h₃, h₄⟩ := h
  obtain ⟨hk, hp⟩ := start_at hs i
  rw [group_at h₄ i, group_at h₃ i, group_at h₂ i, group_at h₁ i, group_at h₀ i, hk, hp]
  rfl

end Cipher

/-- The two words cut out of a key are the key's. -/
theorem key_at {x : Words S2} {φ : Key} (h : All W (keyL x φ)) : (word W φ.k₀, word W φ.k₁) = key W x := by
  simp only [All, Op.Holds, keyL] at h
  obtain ⟨h₁, h₂, h₃, h₄, -⟩ := h
  unfold word key val
  rw [h₄, h₃, h₂, h₁]
  have at₀ : ∀ u : S2.Idx → Word, shapeCast S_ (extractStridedSlice S1 ![0] u slices_S2_S1_0) shapeCasts_S1_S_ ix0 =
      u (ix1 (0 : Fin 2)) := fun u => by
    refine (shapeCast_apply (s := S1) (t := S_) _ _ ix0 (ix1 (0 : Fin 1)) (by decide)).trans ?_
    exact extractStridedSlice_apply (s := S2) (t := S1) _ _ _ _ (ix1 (0 : Fin 2)) (by decide)
  have at₁ : ∀ u : S2.Idx → Word, shapeCast S_ (extractStridedSlice S1 ![1] u slices_S2_S1_1) shapeCasts_S1_S_ ix0 =
      u (ix1 (1 : Fin 2)) := fun u => by
    refine (shapeCast_apply (s := S1) (t := S_) _ _ ix0 (ix1 (0 : Fin 1)) (by decide)).trans ?_
    exact extractStridedSlice_apply (s := S2) (t := S1) _ _ _ _ (ix1 (1 : Fin 2)) (by decide)
  exact Prod.ext (at₀ _) (at₁ _)

/-- The two keys cut out of a pair of keys are its rows. -/
theorem rows_at {x : Words S2x2} {φ : Rows} (h : All W (rowsL x φ)) :
    key W φ.k₀ = (val W x (ix2 (0 : Fin 2) (0 : Fin 2)), val W x (ix2 (0 : Fin 2) (1 : Fin 2))) ∧
      key W φ.k₁ = (val W x (ix2 (1 : Fin 2) (0 : Fin 2)), val W x (ix2 (1 : Fin 2) (1 : Fin 2))) := by
  simp only [All, Op.Holds, rowsL] at h
  obtain ⟨h₁, h₂, h₃, h₄, -⟩ := h
  unfold key val
  rw [h₄, h₃, h₂, h₁]
  have at₀ : ∀ (u : S2x2.Idx → Word) (j : Fin 2), shapeCast S2 (extractStridedSlice S1x2 ![0, 0] u slices_S2x2_S1x2_0_0)
      shapeCasts_S1x2_S2 (ix1 j) = u (ix2 (0 : Fin 2) j) := fun u j => by
    refine (shapeCast_apply (s := S1x2) (t := S2) _ _ (ix1 j) (ix2 (0 : Fin 1) j) (by revert j; decide)).trans ?_
    exact extractStridedSlice_apply (s := S2x2) (t := S1x2) _ _ _ _ (ix2 (0 : Fin 2) j) (by revert j; decide)
  have at₁ : ∀ (u : S2x2.Idx → Word) (j : Fin 2), shapeCast S2 (extractStridedSlice S1x2 ![1, 0] u slices_S2x2_S1x2_1_0)
      shapeCasts_S1x2_S2 (ix1 j) = u (ix2 (1 : Fin 2) j) := fun u j => by
    refine (shapeCast_apply (s := S1x2) (t := S2) _ _ (ix1 j) (ix2 (0 : Fin 1) j) (by revert j; decide)).trans ?_
    exact extractStridedSlice_apply (s := S2x2) (t := S1x2) _ _ _ _ (ix2 (1 : Fin 2) j) (by revert j; decide)
  exact ⟨Prod.ext (at₀ _ 0) (at₀ _ 1), Prod.ext (at₁ _ 0) (at₁ _ 1)⟩

/-- The counters' high and low words. -/
theorem count_at {n : Nat} {hb : S_.BroadcastsInDim ⟨1, ![n]⟩ ![]} {φ : Count ⟨1, ![n]⟩} (h : All W (countL hb φ))
    (i : Shape.Idx ⟨1, ![n]⟩) : val W φ.hi i = (IntOp.shrui .host (counter (i 0).val) 32#64).setWidth 32 ∧
      val W φ.lo i = (counter (i 0).val).setWidth 32 := by
  simp only [All, Op.Holds, countL] at h
  obtain ⟨h₁, h₂, h₃, h₄, h₅, h₆, h₇, h₈, h₉, -⟩ := h
  unfold val
  rw [h₉, h₈, h₇, h₆, h₅, h₄, h₃, h₂, h₁]
  exact ⟨rfl, rfl⟩

/-- A counter's cipher under a key, in a line that cuts the key up, counts, and enciphers. -/
theorem block_at {n : Nat} {hb : S_.BroadcastsInDim ⟨1, ![n]⟩ ![]} {x : Words S2} {k : Key} {c : Count ⟨1, ![n]⟩}
    {φ : Cipher ⟨1, ![n]⟩} (hk : All W (keyL x k)) (hc : All W (countL hb c))
    (h : All W (cipherL hb k.k₀ k.k₁ c.hi c.lo φ)) (i : Shape.Idx ⟨1, ![n]⟩) :
    pair W φ.g₄.k.a φ.g₄.k.b i = block (key W x) (i 0).val := by
  rw [cipher_at h i, (count_at hc i).1, (count_at hc i).2, ← key_at hk]
  rfl

/-- Bits drawn from a key. -/
theorem bits_at {x : Words S2} {φ : Bits} (h : All W (bitsL x φ)) (i : S128.Idx) :
    val W φ.out i = bits (key W x) (i 0).val := by
  simp only [bitsL, all_append] at h
  obtain ⟨hk, hc, he, ho, -⟩ := h
  have e : get W φ.out = xori (get W φ.enc.g₄.k.a) (get W φ.enc.g₄.k.b) := ho
  unfold val bits
  rw [e, ← block_at hk hc he i]
  rfl

/-- A split: row `j` of its result is the cipher of the counter `j`. -/
theorem split_at {x : Words S2} {φ : Split} (h : All W (splitL x φ)) (j : Fin 2) :
    (val W φ.keys (ix2 j (0 : Fin 2)), val W φ.keys (ix2 j (1 : Fin 2))) = block (key W x) j.val := by
  simp only [splitL, all_append] at h
  obtain ⟨hk, hc, he, h₁, h₂, h₃, -⟩ := h
  have e₁ : get W φ.c₀ = broadcastInDim S2x1 ![0] bcast_S2_S2x1_0 (get W φ.enc.g₄.k.a) := h₁
  have e₂ : get W φ.c₁ = broadcastInDim S2x1 ![0] bcast_S2_S2x1_0 (get W φ.enc.g₄.k.b) := h₂
  have e₃ : get W φ.keys = concatenate S2x2 1 [⟨S2x1, get W φ.c₀⟩, ⟨S2x1, get W φ.c₁⟩] concatenates_S2x1_S2x1_S2x2_d1 := h₃
  have b : ∀ u : S2.Idx → Word, broadcastInDim S2x1 ![0] bcast_S2_S2x1_0 u (ix2 j (0 : Fin 1)) = u (ix1 j) := fun u =>
    broadcastInDim_apply (s := S2) (t := S2x1) _ _ u _ (ix1 j) (by revert j; decide)
  have cat₀ : ∀ u v : S2x1.Idx → Word, concatenate S2x2 1 [⟨S2x1, u⟩, ⟨S2x1, v⟩] concatenates_S2x1_S2x1_S2x2_d1
      (ix2 j (0 : Fin 2)) = u (ix2 j (0 : Fin 1)) := fun u v =>
    concatenate_pair_apply_left (t := S2x2) (s₁ := S2x1) (s₂ := S2x1) 1 u v _ (ix2 j (0 : Fin 2)) rfl (ix2 j (0 : Fin 1))
      (by clear b; revert j; decide)
  have cat₁ : ∀ u v : S2x1.Idx → Word, concatenate S2x2 1 [⟨S2x1, u⟩, ⟨S2x1, v⟩] concatenates_S2x1_S2x1_S2x2_d1
      (ix2 j (1 : Fin 2)) = v (ix2 j (0 : Fin 1)) := fun u v =>
    concatenate_pair_apply_right (t := S2x2) (s₁ := S2x1) (s₂ := S2x1) 1 u v _ (ix2 j (1 : Fin 2)) rfl rfl (ix2 j (0 : Fin 1))
      (by clear cat₀ b; revert j; decide) (by clear cat₀ b; revert j; decide)
  refine Eq.trans ?_ (block_at hk hc he (ix1 j))
  unfold pair val
  rw [e₃, e₁, e₂]
  exact congrArg₂ Prod.mk ((cat₀ _ _).trans (b _)) ((cat₁ _ _).trans (b _))

/-- The two keys of a split key. -/
theorem keys_at {x : Words S2} {φ : Split} {ψ : Rows} (h : All W (splitL x φ)) (hr : All W (rowsL φ.keys ψ)) :
    key W ψ.k₀ = block (key W x) 0 ∧ key W ψ.k₁ = block (key W x) 1 :=
  ⟨(rows_at hr).1.trans (split_at h 0), (rows_at hr).2.trans (split_at h 1)⟩

end Cert.ReferenceIdeal.Line

end
-- ==== Proof.ReferenceValue.lean ====
module

public import proofs.«01_k».proof.Proof.ReferenceBits
public import Idealize.ShloMosaic.Lib.Claim

/-!
The reference's result.

Its two draws of integers and its mask are read off the equations of its line, and with them its result: the argument,
but 0.0 in the rows that the mask marks.
-/

@[expose] public section

noncomputable section

namespace Cert.ReferenceIdeal.Line

open Idealize.ShloMosaic Idealize.ShloMosaic.TcCoe Idealize.SL.Sem
open Idealize.ShloMosaic.StableHlo (TRef after)
open Cert.ReferenceIdeal Cert.ReferenceIdeal.Gen Cert.ReferenceIdeal.Draws

variable {F : FTy → Type} [FloatOps F] {W : Valuation τ sig (Elt F)}

/-- One word laid out over the 128 samples is that word at each. -/
theorem spread_at {α : Type} (x : S1.Idx → α) (i : S128.Idx) :
    broadcastInDim S128 ![0] bcast_S1_S128_0 x i = x (ix1 (0 : Fin 1)) :=
  broadcastInDim_apply (s := S1) (t := S128) _ _ x i (ix1 (0 : Fin 1)) fun a => by fin_cases a; rfl

/-- A scalar held between two scalars. -/
theorem clip_at {x lo hi v w : Words S_} (h : All W (clipL x lo hi v w)) :
    word W w = clip (word W x) (word W lo) (word W hi) := by
  simp only [All, Op.Holds, clipL] at h
  obtain ⟨h₁, h₂, -⟩ := h
  unfold word val
  rw [h₂, h₁]
  rfl

/-- The draw of integers from a scalar up to a scalar. -/
theorem draw_at {arg0 : Words S2} {arg1 arg2 : Words S_} {φ : fn_randint.Bufs} (h : All W (drawL arg0 arg1 arg2 φ))
    (i : S128.Idx) : val W φ.v65 i = draw (key W arg0) (word W arg1) (word W arg2) (i 0).val := by
  simp only [drawL, all_append] at h
  obtain ⟨a, ha, b, hb, c, hc, d, hs, hr, h₁, h₂, e⟩ := h
  simp only [All, Op.Holds] at a b c d e
  obtain ⟨a₁, a₂, a₃, -⟩ := a
  obtain ⟨b₁, b₂, b₃, -⟩ := b
  obtain ⟨c₁, c₂, c₃, -⟩ := c
  obtain ⟨d₁, d₂, d₃, -⟩ := d
  obtain ⟨e₁, e₂, e₃, e₄, e₅, e₆, e₇, e₈, e₉, e₁₀, e₁₁, e₁₂, e₁₃, e₁₄, e₁₅, e₁₆, e₁₇, e₁₈, e₁₉, e₂₀, e₂₁, e₂₂, e₂₃, e₂₄, e₂₅,
    e₂₆, e₂₇, e₂₈, e₂₉, e₃₀, -⟩ := e
  -- the bounds
  have top : word W φ.call0.v1 = held 2147483647#32 := by
    rw [clip_at ha]; unfold word val; rw [a₁, a₂, a₃]; rfl
  have lo : get W φ.v6 (ix1 (0 : Fin 1)) = held (word W arg1) := by
    rw [d₂]
    refine (bcast_at (S := S1) bcast_S_S1 (get W φ.v3) _).trans ?_
    rw [c₁]
    refine (clip_at hb).trans ?_
    unfold word val; rw [b₂, b₃]; rfl
  have hi : get W φ.v7 (ix1 (0 : Fin 1)) = held (word W arg2) := by
    rw [d₃]
    refine (bcast_at (S := S1) bcast_S_S1 (get W φ.v5) _).trans ?_
    rw [d₁]
    refine (clip_at hc).trans ?_
    unfold word val; rw [c₂, c₃]; rfl
  have big : broadcastInDim S1 ![] bcast_S_S1 (get W φ.v1) (ix1 (0 : Fin 1)) =
      IntOp.cmpi .sgt (word W arg2) (held 2147483647#32) := by
    refine (bcast_at (S := S1) bcast_S_S1 (get W φ.v1) _).trans ?_
    rw [b₁, ← top]
    rfl
  -- the number of integers, and the multiplier of the high digit
  have s : get W φ.v49 (ix1 (0 : Fin 1)) = span (word W arg1) (word W arg2) := by
    unfold span
    rw [← big, ← lo, ← hi, e₁₃, e₁₂, e₁₁, e₁₀, e₉, e₈, e₇, e₆, e₅, e₄, e₃, e₂, e₁]
    rfl
  have s' := (spread_at (get W φ.v49) i).trans s
  have m : broadcastInDim S128 ![0] bcast_S1_S128_0 (get W φ.v53) i = multiplier (span (word W arg1) (word W arg2)) := by
    rw [spread_at, e₁₈, e₁₇, e₁₆, e₁₅, e₁₄, ← s]
    rfl
  have lo' := (spread_at (get W φ.v6) i).trans lo
  obtain ⟨k₁, k₂⟩ := keys_at (ψ := ⟨φ.v9, φ.v10, φ.v11, φ.v12⟩) hs hr
  have r₁ := bits_at h₁ i
  have r₂ := bits_at h₂ i
  rw [k₁] at r₁
  rw [k₂] at r₂
  unfold draw reduce
  rw [← r₁, ← r₂, ← lo', ← m, ← s']
  unfold val
  rw [e₃₀, e₂₉, e₂₈, e₂₇, e₂₆, e₂₅, e₂₄, e₂₃, e₂₂, e₂₁, e₂₀, e₁₉]
  rfl

/-- The draw of integers from a scalar up to each sample's own bound. -/
theorem draws_at {arg0 : Words S2} {arg1 : Words S_} {arg2 : Words S128} {φ : fn_randint_3.Bufs}
    (h : All W (drawsL arg0 arg1 arg2 φ)) (i : S128.Idx) :
    val W φ.v62 i = draw (key W arg0) (word W arg1) (val W arg2 i) (i 0).val := by
  simp only [drawsL, all_append] at h
  obtain ⟨a, ha, b, hb, c, d, v, hs, hr, h₁, h₂, e⟩ := h
  simp only [All, Op.Holds] at a b c d v e
  obtain ⟨a₁, a₂, a₃, -⟩ := a
  obtain ⟨b₁, b₂, b₃, b₄, -⟩ := b
  obtain ⟨c₁, c₂, c₃, -⟩ := c
  obtain ⟨d₁, d₂, d₃, d₄, -⟩ := d
  obtain ⟨v₁, -⟩ := v
  obtain ⟨e₁, e₂, e₃, e₄, e₅, e₆, e₇, e₈, e₉, e₁₀, e₁₁, e₁₂, e₁₃, e₁₄, e₁₅, e₁₆, e₁₇, e₁₈, e₁₉, e₂₀, e₂₁, e₂₂, e₂₃, e₂₄, e₂₅,
    e₂₆, e₂₇, e₂₈, -⟩ := e
  -- the bounds
  have top : broadcastInDim S128 ![] bcast_S_S128 (get W φ.call0.v1) i = held 2147483647#32 := by
    refine (bcast_at (S := S128) bcast_S_S128 (get W φ.call0.v1) i).trans ((clip_at ha).trans ?_)
    unfold word val; rw [a₁, a₂, a₃]; rfl
  have lo (j : S128.Idx) : broadcastInDim S128 ![0] bcast_S1_S128_0 (get W φ.v6) j = held (word W arg1) := by
    rw [spread_at, v₁]
    refine (bcast_at (S := S1) bcast_S_S1 (get W φ.v4) _).trans ?_
    rw [c₁]
    refine (clip_at hb).trans ?_
    unfold word val; rw [b₃, b₄]; rfl
  have hi : get W φ.call2.v3 i = held (val W arg2 i) := by
    rw [d₄, d₃, d₂, d₁, c₂, c₃]
    rfl
  have big : get W φ.v2 i = IntOp.cmpi .sgt (val W arg2 i) (held 2147483647#32) := by
    rw [b₂, b₁, ← top]
    rfl
  -- the number of integers, and the multiplier of the high digit
  have s : get W φ.v50 i = span (word W arg1) (val W arg2 i) := by
    unfold span
    rw [← big, ← lo i, ← hi, e₁₅, e₁₄, e₁₃, e₁₂, e₁₁, e₁₀, e₉, e₈, e₇, e₆, e₅, e₄, e₃, e₂, e₁]
    rfl
  have m : get W φ.v54 i = multiplier (span (word W arg1) (val W arg2 i)) := by
    rw [e₂₀, e₁₉, e₁₈, e₁₇, e₁₆, ← s]
    rfl
  obtain ⟨k₁, k₂⟩ := keys_at (ψ := ⟨φ.v8, φ.v9, φ.v10, φ.v11⟩) hs hr
  have r₁ := bits_at h₁ i
  have r₂ := bits_at h₂ i
  rw [k₁] at r₁
  rw [k₂] at r₂
  unfold draw reduce
  rw [← r₁, ← r₂, ← lo i, ← m, ← s]
  unfold val
  rw [e₂₈, e₂₇, e₂₆, e₂₅, e₂₄, e₂₃, e₂₂, e₂₁]
  rfl

/-- The mask's bit of sample `b` and row `r`. -/
theorem mask_at {f f₀ : Words S128} {φ : Mask} (h : All W (maskL f f₀ φ)) (b r : Fin 128) :
    get W φ.v29 (ix3 b r (0 : Fin 1)) = mark (val W f (ix1 b)) (val W f₀ (ix1 b)) r.val := by
  simp only [All, Op.Holds, maskL] at h
  obtain ⟨h₁, h₂, h₃, h₄, h₅, h₆, h₇, h₈, h₉, h₁₀, h₁₁, h₁₂, h₁₃, h₁₄, -⟩ := h
  have across (u : S128.Idx → Word) : broadcastInDim S128x128 ![0, 1] bcast_S1x128_S128x128_0_1
      (broadcastInDim S1x128 ![1] bcast_S128_S1x128_1 u) (ix2 b r) = u (ix1 r) := by
    refine (broadcastInDim_apply (s := S1x128) (t := S128x128) _ _ _ (ix2 b r) (ix2 (0 : Fin 1) r)
      fun a => by fin_cases a <;> rfl).trans ?_
    exact broadcastInDim_apply (s := S128) (t := S1x128) _ _ u _ (ix1 r) fun a => by fin_cases a; rfl
  have down (u : S128.Idx → Word) : broadcastInDim S128x128 ![0, 1] bcast_S128x1_S128x128_0_1
      (broadcastInDim S128x1 ![0] bcast_S128_S128x1_0 u) (ix2 b r) = u (ix1 b) := by
    refine (broadcastInDim_apply (s := S128x1) (t := S128x128) _ _ _ (ix2 b r) (ix2 b (0 : Fin 1))
      fun a => by fin_cases a <;> rfl).trans ?_
    exact broadcastInDim_apply (s := S128) (t := S128x1) _ _ u _ (ix1 b) fun a => by fin_cases a; rfl
  rw [h₁₄]
  refine (broadcastInDim_apply (s := S128x128) (t := S128x128x1) _ _ _ (ix3 b r (0 : Fin 1)) (ix2 b r)
    fun a => by fin_cases a <;> rfl).trans ?_
  rw [h₁₃, h₁₂, h₁₁, h₁₀, h₉, h₈, h₇, h₆, h₅, h₄, h₃, h₂]
  refine (congrArg₂ IntOp.andi (congrArg₂ (IntOp.cmpi .sge) (across _) (down _))
    (congrArg₂ (IntOp.cmpi .slt) (across _) (down _))).trans ?_
  rw [h₁]
  rfl

/-- The result of the masking at an index: the scalar on a marked row, and the array's own entry elsewhere. -/
theorem where_at {arg0 : Bools S128x128x1} {arg1 : TRef sig ⟨S_, .f32⟩} {arg2 : TRef sig ⟨S128x128x3000, .f32⟩}
    {φ : fn_where.Bufs} (h : All W (whereL arg0 arg1 arg2 φ)) (i : S128x128x3000.Idx) :
    get W φ.v2 i = Scalar.select (α := F .f32) (get W arg0 (ix3 (i 0) (i 1) (0 : Fin 1))) (get W arg1 ix0) (get W arg2 i) := by
  simp only [All, Op.Holds, whereL] at h
  obtain ⟨h₁, h₂, h₃, -⟩ := h
  have e₁ : get W φ.v0 i = get W arg0 (ix3 (i 0) (i 1) (0 : Fin 1)) := by
    rw [h₁]
    exact broadcastInDim_apply (s := S128x128x1) (t := S128x128x3000) _ _ _ i (ix3 (i 0) (i 1) (0 : Fin 1))
      fun a => by fin_cases a <;> rfl
  have e₂ : get W φ.v1 i = get W arg1 ix0 := by
    rw [h₂]
    exact bcast_at (S := S128x128x3000) _ _ i
  rw [h₃, ← e₁, ← e₂]
  rfl

/-- The array `x`, but 0.0 in the rows that the draws mark. -/
def masked (x : FVec F S128x128x3000 .f32) : FVec F S128x128x3000 .f32 := fun i =>
  Scalar.select (mark (width (i 0).val) (first (i 0).val) (i 1).val) (FloatOps.ofBits .f32 0x00000000#32) (x i)

/-- The line's result is the masked argument. -/
theorem line_at (h : All W (line (F := F))) :
    get W (.of main_v30 : TRef sig ⟨S128x128x3000, .f32⟩) = masked (get W (.of main_arg0)) := by
  simp only [line, all_append] at h
  obtain ⟨a, hs, hr, b, hd, c, hds, hm, d, hw⟩ := h
  simp only [All, Op.Holds] at a b c d
  obtain ⟨a₁, a₂, a₃, a₄, a₅, a₆, a₇, a₈, a₉, a₁₀, -⟩ := a
  obtain ⟨b₁, b₂, -⟩ := b
  obtain ⟨c₁, c₂, c₃, c₄, -⟩ := c
  obtain ⟨d₁, -⟩ := d
  have k : key W (.of main_v6) = seed := by
    unfold key val
    rw [a₁₀]
    refine congrArg₂ Prod.mk ?_ ?_
    · refine (concatenate_pair_apply_left (t := S2) (s₁ := S1) (s₂ := S1) 0 _ _ _ (ix1 (0 : Fin 2)) rfl (ix1 (0 : Fin 1))
        (by decide)).trans ?_
      rw [a₅, a₄, a₃, a₁, a₂]
      rfl
    · refine (concatenate_pair_apply_right (t := S2) (s₁ := S1) (s₂ := S1) 0 _ _ _ (ix1 (1 : Fin 2)) rfl rfl (ix1 (0 : Fin 1))
        (by decide) (by decide)).trans ?_
      rw [a₉, a₈, a₇, a₆, a₁]
      rfl
  obtain ⟨k₁, k₂⟩ := keys_at hs hr
  rw [k] at k₁ k₂
  have w (n : Fin 128) : val W (.of main_v12) (ix1 n) = width n.val := by
    refine (draw_at hd (ix1 n)).trans ?_
    rw [k₁]
    unfold word val
    rw [b₁, b₂]
    rfl
  have f (n : Fin 128) : val W (.of main_v15) (ix1 n) = first n.val := by
    refine (draws_at hds (ix1 n)).trans ?_
    rw [k₂]
    unfold first
    rw [← w n]
    unfold word val
    rw [c₄, c₃, c₂, c₁]
    rfl
  have g (n r : Fin 128) : get W (.of main_v29 : Bools S128x128x1) (ix3 n r (0 : Fin 1)) =
      mark (width n.val) (first n.val) r.val := by
    refine (mask_at hm n r).trans ?_
    rw [w, f]
  funext i
  refine (where_at hw i).trans ?_
  exact congrArg₂ (fun c z => Scalar.select (α := F .f32) c z (get W (.of main_arg0 : TRef sig ⟨S128x128x3000, .f32⟩) i))
    (g (i 0) (i 1)) (congrFun d₁ ix0)

/-! ## The run -/

/-- The result and the argument in contents `W` where every equation holds and the argument is still what `V` has. -/
theorem ends {V : Valuation τ sig (Elt F)} (h : All W (line (F := F)))
    (a : get W (.of main_arg0 : TRef sig ⟨S128x128x3000, .f32⟩) = get V (.of main_arg0)) :
    W (Proc.devRef .tc main_v30) = masked (V (Proc.devRef .tc main_arg0)) ∧
      W (Proc.devRef .tc main_arg0) = V (Proc.devRef .tc main_arg0) := by
  have e := line_at h
  rw [a] at e
  exact ⟨e, a⟩

variable (m : (ℓ : Loc nD τ sig) → Buf (Elt F) ℓ) (ρ : Dev nD → PrngReg)

/-- No buffer is scoped. -/
theorem no_scoped : (Finset.univ.filter fun b : Ref sig .tc => b.isScoped) = ∅ := by
  decide +kernel

/-- Every run of the reference ends with its result the masked argument, and the argument as launched. -/
theorem run : θ_run defs (onTc (τ := τ) (main (F := F))) ⟨m, fun _ => 0, ρ⟩ fun r => ∀ c : Dev nD,
      r.2.mem ((c : Thread nD τ).loc main_v30) = masked (m ((c : Thread nD τ).loc main_arg0))
      ∧ r.2.mem ((c : Thread nD τ).loc main_arg0) = m ((c : Thread nD τ).loc main_arg0) := by
  refine (θ_run defs _ _).mono (fun r h c => ?_) (StableHlo.run_seq (Val := Elt F) no_scoped (by decide) defs main
    (fun _ => line.map Op.den) main_eq (fun _ => List.forall_iff_forall_mem.mpr fun o ho => ?_) m ρ fun _ o ho => ?_)
  · have e := ends (all_of (holds_after line 1 (StableHlo.launchContents m c) ok_line))
      (get_after line 1 (StableHlo.launchContents m c) ok_line (.of main_arg0 : TRef sig ⟨S128x128x3000, .f32⟩) (by decide))
    exact ⟨(h c main_v30).trans e.1, (h c main_arg0).trans e.2⟩
  · obtain ⟨op, -, rfl⟩ := List.mem_map.mp ho
    exact bufs_sub op
  · obtain ⟨op, -, rfl⟩ := List.mem_map.mp ho
    exact fresh_eq op

end Cert.ReferenceIdeal.Line

end
-- ==== Proof.Agree.lean ====
module

public import proofs.«01_k».proof.Proof.Table
public import proofs.«01_k».proof.Proof.ReferenceValue
public import Idealize.ShloMosaic.PureOps.Ideal

/-!
The kernel's product is the reference's masking.

The scale table is 0.0 in the rows that the reference masks, and 1.0 in the others (`table_eq`). In the extended reals a
product with 0 is 0, and a product with 1 is the other factor.
-/

@[expose] public section

noncomputable section

namespace Cert.Agree

open Idealize.ShloMosaic
open Cert.KernelIdeal.Masked Cert.ReferenceIdeal.Draws Cert.ReferenceIdeal.Line

/-- The word of 0.0 is zero, -/
theorem zero_eq : Ideal.ofBits .f32 0x00000000#32 = 0 := by
  simp [Ideal.ofBits, Ideal.ieee]

/-- and the word of 1.0 is one. -/
theorem one_eq : Ideal.ofBits .f32 0x3F800000#32 = 1 := by
  simp [Ideal.ofBits, Ideal.ieee]
  rw [← EReal.coe_mul]
  norm_num

/-- Scaling the rows is masking them. -/
theorem scaled_eq_masked (x : FVec Ideal ⟨3, ![128, 128, 3000]⟩ .f32) : scaled x = masked x := by
  funext i
  unfold scaled masked
  rw [table_eq (i 0) (i 1)]
  unfold Scalar.select
  split
  · show x i * Ideal.ofBits .f32 0x00000000#32 = Ideal.ofBits .f32 0x00000000#32
    rw [zero_eq, mul_zero]
  · show x i * Ideal.ofBits .f32 0x3F800000#32 = x i
    rw [one_eq, mul_one]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import Idealize.ShloMosaic.Adequacy
public import Idealize.ShloMosaic.Init

/-!
The claims, put together: the frames of the three programs, and the equality of the kernel's and the reference's results.
-/

@[expose] public section

noncomputable section

namespace Cert.Proof

open Idealize.ShloMosaic Idealize.SL.Sem Cert.Kernel

/-- The kernel and the reference end with equal results: the kernel's scaled argument is the reference's masked one. -/
theorem algebraic : Cert.algebraic_KernelIdeal_ReferenceIdeal
    (hKernelIdeal := Cert.KernelIdeal.Gen.facts) (hReferenceIdeal := Cert.ReferenceIdeal.Gen.facts) := by
  intro m g m' g' _ hm
  refine ⟨fun c => Cert.KernelIdeal.Masked.scaled (F := Ideal)
    (m ((c.tc : Thread Cert.KernelIdeal.nD Cert.KernelIdeal.τ).loc Cert.KernelIdeal.main_arg0)),
    Cert.KernelIdeal.Masked.run m g, ?_⟩
  refine (θ_run _ _ _).mono (fun r h c => ⟨(h c).1.trans ?_, (h c).2⟩) (Cert.ReferenceIdeal.Line.run (F := Ideal) m' g')
  exact (congrArg Cert.ReferenceIdeal.Line.masked (hm c)).trans (Cert.Agree.scaled_eq_masked _).symm

/-- The reference runs, leaves its argument as it was, and has no semaphore. -/
theorem quiescent_reference : Cert.quiescent_ReferenceIdeal (hReferenceIdeal := Cert.ReferenceIdeal.Gen.facts) :=
  fun m g _ => (θ_run _ _ _).mono
    (fun r h => ⟨fun c => (h c).2, Idealize.ShloMosaic.sem_eq_zero_of_no_sems (by decide) r.2⟩)
    (Cert.ReferenceIdeal.Line.run (F := Ideal) m g)

/-- Every claim, under the programs' stated facts. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, quiescent_reference, trivial,
    algebraic⟩

end Cert.Proof

end
